-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S8x32x1024 : Shape := ⟨3, ![8, 32, 1024]⟩
abbrev S256x1024 : Shape := ⟨2, ![256, 1024]⟩
abbrev S8 : Shape := ⟨1, ![8]⟩
abbrev S4 : Shape := ⟨1, ![4]⟩
abbrev S_ : Shape := ⟨0, ![]⟩
abbrev S1x32x1024 : Shape := ⟨3, ![1, 32, 1024]⟩
abbrev S32x1024 : Shape := ⟨2, ![32, 1024]⟩
abbrev S1x256x1024 : Shape := ⟨3, ![1, 256, 1024]⟩
abbrev S1 : Shape := ⟨1, ![1]⟩
abbrev S32 : Shape := ⟨1, ![32]⟩
abbrev S32x1 : Shape := ⟨2, ![32, 1]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .f32⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .bf16⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v34 : BitVec 32 := Scalar.muli v10 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v42 : BitVec 32 := Scalar.muli v11 c1_i32_27
  let v43 : BitVec 32 := Scalar.addi v41 v42
  v43.toNat
def k0_off1 (d0 : Dev nD) (c0_i32_28 : BitVec 32) : Fin 3 → Nat :=
  let c0 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v24 : BitVec 32 := Scalar.muli v13 c256_i32
  let v44 : BitVec 32 := Scalar.addi v24 c0_i32_28
  let v45 : Index := Scalar.indexCast v44
  let c0_29 : Index := 0#32
  ![0, v45.toNat, 0]
def k0_off2 (d0 : Dev nD) : Fin 3 → Nat :=
  let c0_61 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v24 : BitVec 32 := Scalar.muli v13 c256_i32
  let v108 : Index := Scalar.indexCast v24
  let c0_62 : Index := 0#32
  ![0, v108.toNat, 0]
def k0_off3 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v24 : BitVec 32 := Scalar.muli v13 c256_i32
  let v111 : Index := Scalar.indexCast v24
  let c0_63 : Index := 0#32
  ![v111.toNat, 0]
def k0_dev4 (d0 : Dev nD) : Nat :=
  let c0_i32_72 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_71 : BitVec 32 := 4#32
  let v118 : BitVec 32 := Scalar.muli v9 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v122 : BitVec 32 := Scalar.muli v8 c1_i32_74
  let v123 : BitVec 32 := Scalar.addi v121 v122
  v123.toNat
def k0_dev5 (d0 : Dev nD) : Nat :=
  let c0_i32_84 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_83 : BitVec 32 := 4#32
  let v132 : BitVec 32 := Scalar.muli v9 c4_i32_83
  let v133 : BitVec 32 := Scalar.addi c0_i32_84 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v134 : BitVec 32 := Scalar.muli v5 c2_i32_85
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v136 : BitVec 32 := Scalar.muli v8 c1_i32_86
  let v137 : BitVec 32 := Scalar.addi v135 v136
  v137.toNat
def k0_dev6 (d0 : Dev nD) : Nat :=
  let c0_i32_96 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_95 : BitVec 32 := 4#32
  let v146 : BitVec 32 := Scalar.muli v9 c4_i32_95
  let v147 : BitVec 32 := Scalar.addi c0_i32_96 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v148 : BitVec 32 := Scalar.muli v5 c2_i32_97
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v150 : BitVec 32 := Scalar.muli v8 c1_i32_98
  let v151 : BitVec 32 := Scalar.addi v149 v150
  v151.toNat
def k0_dev7 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v160 : BitVec 32 := Scalar.muli v9 c4_i32_106
  let v161 : BitVec 32 := Scalar.addi c0_i32_107 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v162 : BitVec 32 := Scalar.muli v5 c2_i32_108
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v164 : BitVec 32 := Scalar.muli v8 c1_i32_109
  let v165 : BitVec 32 := Scalar.addi v163 v164
  v165.toNat
def k0_dev8 (d0 : Dev nD) : Nat :=
  let c0_i32_119 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_118 : BitVec 32 := 4#32
  let v174 : BitVec 32 := Scalar.muli v9 c4_i32_118
  let v175 : BitVec 32 := Scalar.addi c0_i32_119 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v176 : BitVec 32 := Scalar.muli v5 c2_i32_120
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v178 : BitVec 32 := Scalar.muli v8 c1_i32_121
  let v179 : BitVec 32 := Scalar.addi v177 v178
  v179.toNat
def k0_dev9 (d0 : Dev nD) : Nat :=
  let c0_i32_130 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_129 : BitVec 32 := 4#32
  let v188 : BitVec 32 := Scalar.muli v9 c4_i32_129
  let v189 : BitVec 32 := Scalar.addi c0_i32_130 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v190 : BitVec 32 := Scalar.muli v5 c2_i32_131
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v192 : BitVec 32 := Scalar.muli v8 c1_i32_132
  let v193 : BitVec 32 := Scalar.addi v191 v192
  v193.toNat
def k0_dev10 (d0 : Dev nD) : Nat :=
  let c0_i32_141 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_140 : BitVec 32 := 4#32
  let v202 : BitVec 32 := Scalar.muli v9 c4_i32_140
  let v203 : BitVec 32 := Scalar.addi c0_i32_141 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v204 : BitVec 32 := Scalar.muli v5 c2_i32_142
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v206 : BitVec 32 := Scalar.muli v8 c1_i32_143
  let v207 : BitVec 32 := Scalar.addi v205 v206
  v207.toNat
def k0_dev11 (d0 : Dev nD) : Nat :=
  let c0_i32_152 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_151 : BitVec 32 := 4#32
  let v216 : BitVec 32 := Scalar.muli v9 c4_i32_151
  let v217 : BitVec 32 := Scalar.addi c0_i32_152 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v218 : BitVec 32 := Scalar.muli v5 c2_i32_153
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v220 : BitVec 32 := Scalar.muli v8 c1_i32_154
  let v221 : BitVec 32 := Scalar.addi v219 v220
  v221.toNat
def k0_off4 (d0 : Dev nD) (c0_i32_173 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v24 : BitVec 32 := Scalar.muli v13 c256_i32
  let v242 : BitVec 32 := Scalar.addi v24 c0_i32_173
  let v268 : Index := Scalar.indexCast v242
  let c0_185 : Index := 0#32
  ![v268.toNat, 0]
def k0_dev12 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v270 : BitVec 32 := Scalar.muli v2 c4_i32_190
  let v271 : BitVec 32 := Scalar.addi c0_i32_191 v270
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_192 : BitVec 32 := 2#32
  let v272 : BitVec 32 := Scalar.muli v10 c2_i32_192
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v274 : BitVec 32 := Scalar.muli v8 c1_i32_193
  let v275 : BitVec 32 := Scalar.addi v273 v274
  v275.toNat
def k0_dev13 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v284 : BitVec 32 := Scalar.muli v2 c4_i32_202
  let v285 : BitVec 32 := Scalar.addi c0_i32_203 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v286 : BitVec 32 := Scalar.muli v5 c2_i32_204
  let v287 : BitVec 32 := Scalar.addi v285 v286
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_205 : BitVec 32 := 1#32
  let v288 : BitVec 32 := Scalar.muli v11 c1_i32_205
  let v289 : BitVec 32 := Scalar.addi v287 v288
  v289.toNat
def k0_dev14 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v338 : BitVec 32 := Scalar.muli v2 c4_i32_239
  let v339 : BitVec 32 := Scalar.addi c0_i32_240 v338
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_241 : BitVec 32 := 2#32
  let v340 : BitVec 32 := Scalar.muli v10 c2_i32_241
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v342 : BitVec 32 := Scalar.muli v8 c1_i32_242
  let v343 : BitVec 32 := Scalar.addi v341 v342
  v343.toNat
def k0_dev15 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v352 : BitVec 32 := Scalar.muli v2 c4_i32_251
  let v353 : BitVec 32 := Scalar.addi c0_i32_252 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v354 : BitVec 32 := Scalar.muli v5 c2_i32_253
  let v355 : BitVec 32 := Scalar.addi v353 v354
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_254 : BitVec 32 := 1#32
  let v356 : BitVec 32 := Scalar.muli v11 c1_i32_254
  let v357 : BitVec 32 := Scalar.addi v355 v356
  v357.toNat
def k0_dev16 (d0 : Dev nD) : Nat :=
  let c0_i32_289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_288 : BitVec 32 := 4#32
  let v406 : BitVec 32 := Scalar.muli v2 c4_i32_288
  let v407 : BitVec 32 := Scalar.addi c0_i32_289 v406
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_290 : BitVec 32 := 2#32
  let v408 : BitVec 32 := Scalar.muli v10 c2_i32_290
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_291 : BitVec 32 := 1#32
  let v410 : BitVec 32 := Scalar.muli v8 c1_i32_291
  let v411 : BitVec 32 := Scalar.addi v409 v410
  v411.toNat
def k0_dev17 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v420 : BitVec 32 := Scalar.muli v2 c4_i32_300
  let v421 : BitVec 32 := Scalar.addi c0_i32_301 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v422 : BitVec 32 := Scalar.muli v5 c2_i32_302
  let v423 : BitVec 32 := Scalar.addi v421 v422
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_303 : BitVec 32 := 1#32
  let v424 : BitVec 32 := Scalar.muli v11 c1_i32_303
  let v425 : BitVec 32 := Scalar.addi v423 v424
  v425.toNat
def k0_dev18 (d0 : Dev nD) : Nat :=
  let c0_i32_338 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_337 : BitVec 32 := 4#32
  let v474 : BitVec 32 := Scalar.muli v2 c4_i32_337
  let v475 : BitVec 32 := Scalar.addi c0_i32_338 v474
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_339 : BitVec 32 := 2#32
  let v476 : BitVec 32 := Scalar.muli v10 c2_i32_339
  let v477 : BitVec 32 := Scalar.addi v475 v476
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_340 : BitVec 32 := 1#32
  let v478 : BitVec 32 := Scalar.muli v8 c1_i32_340
  let v479 : BitVec 32 := Scalar.addi v477 v478
  v479.toNat
def k0_dev19 (d0 : Dev nD) : Nat :=
  let c0_i32_350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_349 : BitVec 32 := 4#32
  let v488 : BitVec 32 := Scalar.muli v2 c4_i32_349
  let v489 : BitVec 32 := Scalar.addi c0_i32_350 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v490 : BitVec 32 := Scalar.muli v5 c2_i32_351
  let v491 : BitVec 32 := Scalar.addi v489 v490
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_352 : BitVec 32 := 1#32
  let v492 : BitVec 32 := Scalar.muli v11 c1_i32_352
  let v493 : BitVec 32 := Scalar.addi v491 v492
  v493.toNat
def k0_dev20 (d0 : Dev nD) : Nat :=
  let c0_i32_387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_386 : BitVec 32 := 4#32
  let v542 : BitVec 32 := Scalar.muli v2 c4_i32_386
  let v543 : BitVec 32 := Scalar.addi c0_i32_387 v542
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_388 : BitVec 32 := 2#32
  let v544 : BitVec 32 := Scalar.muli v10 c2_i32_388
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v546 : BitVec 32 := Scalar.muli v8 c1_i32_389
  let v547 : BitVec 32 := Scalar.addi v545 v546
  v547.toNat
def k0_dev21 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v556 : BitVec 32 := Scalar.muli v2 c4_i32_398
  let v557 : BitVec 32 := Scalar.addi c0_i32_399 v556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v558 : BitVec 32 := Scalar.muli v5 c2_i32_400
  let v559 : BitVec 32 := Scalar.addi v557 v558
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_401 : BitVec 32 := 1#32
  let v560 : BitVec 32 := Scalar.muli v11 c1_i32_401
  let v561 : BitVec 32 := Scalar.addi v559 v560
  v561.toNat
def k0_dev22 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v610 : BitVec 32 := Scalar.muli v2 c4_i32_435
  let v611 : BitVec 32 := Scalar.addi c0_i32_436 v610
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_437 : BitVec 32 := 2#32
  let v612 : BitVec 32 := Scalar.muli v10 c2_i32_437
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v614 : BitVec 32 := Scalar.muli v8 c1_i32_438
  let v615 : BitVec 32 := Scalar.addi v613 v614
  v615.toNat
def k0_dev23 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v624 : BitVec 32 := Scalar.muli v2 c4_i32_447
  let v625 : BitVec 32 := Scalar.addi c0_i32_448 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v626 : BitVec 32 := Scalar.muli v5 c2_i32_449
  let v627 : BitVec 32 := Scalar.addi v625 v626
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_450 : BitVec 32 := 1#32
  let v628 : BitVec 32 := Scalar.muli v11 c1_i32_450
  let v629 : BitVec 32 := Scalar.addi v627 v628
  v629.toNat
def k0_dev24 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v678 : BitVec 32 := Scalar.muli v2 c4_i32_484
  let v679 : BitVec 32 := Scalar.addi c0_i32_485 v678
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_486 : BitVec 32 := 2#32
  let v680 : BitVec 32 := Scalar.muli v10 c2_i32_486
  let v681 : BitVec 32 := Scalar.addi v679 v680
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v682 : BitVec 32 := Scalar.muli v8 c1_i32_487
  let v683 : BitVec 32 := Scalar.addi v681 v682
  v683.toNat
def k0_dev25 (d0 : Dev nD) : Nat :=
  let c0_i32_497 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_496 : BitVec 32 := 4#32
  let v692 : BitVec 32 := Scalar.muli v2 c4_i32_496
  let v693 : BitVec 32 := Scalar.addi c0_i32_497 v692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_498 : BitVec 32 := 2#32
  let v694 : BitVec 32 := Scalar.muli v5 c2_i32_498
  let v695 : BitVec 32 := Scalar.addi v693 v694
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_499 : BitVec 32 := 1#32
  let v696 : BitVec 32 := Scalar.muli v11 c1_i32_499
  let v697 : BitVec 32 := Scalar.addi v695 v696
  v697.toNat
def k0_dev26 (d0 : Dev nD) : Nat :=
  let c0_i32_534 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_533 : BitVec 32 := 4#32
  let v746 : BitVec 32 := Scalar.muli v2 c4_i32_533
  let v747 : BitVec 32 := Scalar.addi c0_i32_534 v746
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_535 : BitVec 32 := 2#32
  let v748 : BitVec 32 := Scalar.muli v10 c2_i32_535
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_536 : BitVec 32 := 1#32
  let v750 : BitVec 32 := Scalar.muli v8 c1_i32_536
  let v751 : BitVec 32 := Scalar.addi v749 v750
  v751.toNat
def k0_dev27 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v760 : BitVec 32 := Scalar.muli v2 c4_i32_545
  let v761 : BitVec 32 := Scalar.addi c0_i32_546 v760
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v762 : BitVec 32 := Scalar.muli v5 c2_i32_547
  let v763 : BitVec 32 := Scalar.addi v761 v762
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_548 : BitVec 32 := 1#32
  let v764 : BitVec 32 := Scalar.muli v11 c1_i32_548
  let v765 : BitVec 32 := Scalar.addi v763 v764
  v765.toNat
def k0_dev28 (d0 : Dev nD) : Nat :=
  let c0_i32_570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_569 : BitVec 32 := 4#32
  let v786 : BitVec 32 := Scalar.muli v2 c4_i32_569
  let v787 : BitVec 32 := Scalar.addi c0_i32_570 v786
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_571 : BitVec 32 := 2#32
  let v788 : BitVec 32 := Scalar.muli v10 c2_i32_571
  let v789 : BitVec 32 := Scalar.addi v787 v788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v790 : BitVec 32 := Scalar.muli v8 c1_i32_572
  let v791 : BitVec 32 := Scalar.addi v789 v790
  v791.toNat
def k0_off5 (d0 : Dev nD) (c0_i32_581 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c256_i32_580 : BitVec 32 := 256#32
  let v803 : BitVec 32 := Scalar.muli v19 c256_i32_580
  let v804 : BitVec 32 := Scalar.addi v803 c0_i32_581
  let v805 : Index := Scalar.indexCast v804
  let c0_582 : Index := 0#32
  ![v805.toNat, 0]
def k0_dev29 (d0 : Dev nD) : Nat :=
  let c0_i32_600 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_599 : BitVec 32 := 4#32
  let v819 : BitVec 32 := Scalar.muli v2 c4_i32_599
  let v820 : BitVec 32 := Scalar.addi c0_i32_600 v819
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_601 : BitVec 32 := 2#32
  let v821 : BitVec 32 := Scalar.muli v10 c2_i32_601
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_602 : BitVec 32 := 1#32
  let v823 : BitVec 32 := Scalar.muli v8 c1_i32_602
  let v824 : BitVec 32 := Scalar.addi v822 v823
  v824.toNat
def k0_dev30 (d0 : Dev nD) : Nat :=
  let c0_i32_630 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_629 : BitVec 32 := 4#32
  let v852 : BitVec 32 := Scalar.muli v2 c4_i32_629
  let v853 : BitVec 32 := Scalar.addi c0_i32_630 v852
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_631 : BitVec 32 := 2#32
  let v854 : BitVec 32 := Scalar.muli v10 c2_i32_631
  let v855 : BitVec 32 := Scalar.addi v853 v854
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v856 : BitVec 32 := Scalar.muli v8 c1_i32_632
  let v857 : BitVec 32 := Scalar.addi v855 v856
  v857.toNat
def k0_dev31 (d0 : Dev nD) : Nat :=
  let c0_i32_660 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_659 : BitVec 32 := 4#32
  let v885 : BitVec 32 := Scalar.muli v2 c4_i32_659
  let v886 : BitVec 32 := Scalar.addi c0_i32_660 v885
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_661 : BitVec 32 := 2#32
  let v887 : BitVec 32 := Scalar.muli v10 c2_i32_661
  let v888 : BitVec 32 := Scalar.addi v886 v887
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v889 : BitVec 32 := Scalar.muli v8 c1_i32_662
  let v890 : BitVec 32 := Scalar.addi v888 v889
  v890.toNat
def k0_dev32 (d0 : Dev nD) : Nat :=
  let c0_i32_690 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_689 : BitVec 32 := 4#32
  let v918 : BitVec 32 := Scalar.muli v2 c4_i32_689
  let v919 : BitVec 32 := Scalar.addi c0_i32_690 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_691 : BitVec 32 := 2#32
  let v920 : BitVec 32 := Scalar.muli v5 c2_i32_691
  let v921 : BitVec 32 := Scalar.addi v919 v920
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_692 : BitVec 32 := 1#32
  let v922 : BitVec 32 := Scalar.muli v11 c1_i32_692
  let v923 : BitVec 32 := Scalar.addi v921 v922
  v923.toNat
def k0_off6 (d0 : Dev nD) (c128_i32_701 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_700 : BitVec 32 := 256#32
  let v935 : BitVec 32 := Scalar.muli v16 c256_i32_700
  let v936 : BitVec 32 := Scalar.addi v935 c128_i32_701
  let v937 : Index := Scalar.indexCast v936
  let c0_702 : Index := 0#32
  ![v937.toNat, 0]
def k0_dev33 (d0 : Dev nD) : Nat :=
  let c0_i32_720 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_719 : BitVec 32 := 4#32
  let v951 : BitVec 32 := Scalar.muli v2 c4_i32_719
  let v952 : BitVec 32 := Scalar.addi c0_i32_720 v951
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_721 : BitVec 32 := 2#32
  let v953 : BitVec 32 := Scalar.muli v5 c2_i32_721
  let v954 : BitVec 32 := Scalar.addi v952 v953
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_722 : BitVec 32 := 1#32
  let v955 : BitVec 32 := Scalar.muli v11 c1_i32_722
  let v956 : BitVec 32 := Scalar.addi v954 v955
  v956.toNat
def k0_dev34 (d0 : Dev nD) : Nat :=
  let c0_i32_750 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_749 : BitVec 32 := 4#32
  let v984 : BitVec 32 := Scalar.muli v2 c4_i32_749
  let v985 : BitVec 32 := Scalar.addi c0_i32_750 v984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_751 : BitVec 32 := 2#32
  let v986 : BitVec 32 := Scalar.muli v5 c2_i32_751
  let v987 : BitVec 32 := Scalar.addi v985 v986
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_752 : BitVec 32 := 1#32
  let v988 : BitVec 32 := Scalar.muli v11 c1_i32_752
  let v989 : BitVec 32 := Scalar.addi v987 v988
  v989.toNat
def k0_dev35 (d0 : Dev nD) : Nat :=
  let c0_i32_780 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_779 : BitVec 32 := 4#32
  let v1017 : BitVec 32 := Scalar.muli v2 c4_i32_779
  let v1018 : BitVec 32 := Scalar.addi c0_i32_780 v1017
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_781 : BitVec 32 := 2#32
  let v1019 : BitVec 32 := Scalar.muli v5 c2_i32_781
  let v1020 : BitVec 32 := Scalar.addi v1018 v1019
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_782 : BitVec 32 := 1#32
  let v1021 : BitVec 32 := Scalar.muli v11 c1_i32_782
  let v1022 : BitVec 32 := Scalar.addi v1020 v1021
  v1022.toNat
def k0_off7 (d0 : Dev nD) (c0_i32_953 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_952 : BitVec 32 := 256#32
  let v1205 : BitVec 32 := Scalar.muli v23 c256_i32_952
  let v1206 : BitVec 32 := Scalar.addi v1205 c0_i32_953
  let v1207 : Index := Scalar.indexCast v1206
  let c0_954 : Index := 0#32
  ![v1207.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Frags.lean ====
/- The body of the kernel as a short program: a handful of fragments, each written once for a symbolic chunk
   `k`, run over the eight chunks. The printed body is this program, by unfolding. -/
module

public import proofs.«01_k».proof.Proof.Gen.KernelIdeal.Skeleton
public import Idealize.ShloMosaic.Lib.Pipeline.Regions

@[expose] public section

set_option synthInstance.maxSize 4096

noncomputable section

namespace Cert.KernelIdeal.Ar

open Idealize.ShloMosaic Idealize.ShloMosaic.TcCoe Idealize.SL.Sem Cert.KernelIdeal.Gen

variable {F : FTy → Type} [FloatOps F]

/-- A program of one core of the kernel with no result. -/
abbrev KProg (F : FTy → Type) [FloatOps F] := Prog (TpuEff nD τ sig (Elt F) Λ₀ .tc) PUnit

/-- A buffer of eight chunks of 32 rows. -/
abbrev Slots := Memref sig .tc .vmem S8x32x1024 .bf16

/-- The neighbour of a device along the first mesh axis. -/
abbrev xn (c : Dev nD) : Dev nD := ⟨k0_dev1 c, k0_dev1_lt c⟩
/-- The neighbour of a device along the second mesh axis. -/
abbrev yn (c : Dev nD) : Dev nD := ⟨k0_dev2 c, k0_dev2_lt c⟩
/-- The neighbour of a device along the third mesh axis. -/
abbrev zn (c : Dev nD) : Dev nD := ⟨k0_dev3 c, k0_dev3_lt c⟩

/-- Chunk `k` lies inside its buffer. -/
theorem slot_inb (k : Fin 8) : ∀ a, (![k.val, 0, 0] : Fin 3 → Nat) a + S1x32x1024.size a ≤ S8x32x1024.size a := by
  revert k; decide
/-- The rectangle of chunk `k`. -/
abbrev slotR (k : Fin 8) : Rect S8x32x1024 := Rect.unit (s := S8x32x1024) ![k.val, 0, 0] S1x32x1024.size (slot_inb k)
/-- Chunk `k` covers whole words. -/
theorem slot_words (k : Fin 8) : (slotR k).WholeWords (EltTy.packing .bf16) := by revert k; decide
/-- Chunk `k` covers whole packed rows. -/
theorem slot_packed (k : Fin 8) : (slotR k).PackedRows (EltTy.packing .bf16) := by revert k; decide
/-- Chunk `k` of the local sum lies inside it. -/
theorem loc_inb (k : Fin 8) : ∀ a, (![32 * k.val, 0] : Fin 2 → Nat) a + S32x1024.size a ≤ S256x1024.size a := by
  revert k; decide

/-- Chunk `k` of a buffer, as the copies name it. -/
abbrev sl (m : Slots) (k : Fin 8) : Memref sig .tc .vmem S32x1024 .bf16 :=
  (m.slice (slotR k) (fun _ => rfl)).squeeze S32x1024 squeezes_S1x32x1024_S32x1024

/-- The number of the completion semaphore of class `a` for chunk `k`: the classes are x-send, x-receive, y-send,
    y-receive, z-send, z-receive, forward-send and forward-receive. -/
def semN (a k : Nat) : Nat := if a < 6 then 4 + 8 * a + k else 52 + 4 * (a - 6) + k + (if k < 4 then 0 else 4)
theorem semN_lt (a k : Fin 8) : semN a.val k.val < 68 := by revert a k; decide
/-- The completion semaphore of class `a` for chunk `k`. -/
abbrev dsem (a k : Fin 8) : DmaSem sig := ⟨semN a.val k.val, semN_lt a k⟩

abbrev bP : Memref sig .tc .vmem S1x1024x1024 .f32 := win0_0.stage 0
abbrev bR : Memref sig .tc .vmem S1024x1024 .f32 := win0_1.stage 0
abbrev bG : Memref sig .tc .vmem S1024 .f32 := win0_2.stage 0
abbrev bO : Memref sig .tc .vmem S1024x1024 .f32 := win0_3.stage 0
abbrev bStage : Slots := Memref.whole cc0_scratch0
abbrev bOther : Slots := Memref.whole cc0_scratch1
abbrev bOut : Slots := Memref.whole cc0_scratch2
abbrev bYin : Slots := Memref.whole cc0_scratch3
abbrev bZin : Slots := Memref.whole cc0_scratch4
abbrev bDiag : Slots := Memref.whole cc0_scratch5
abbrev bLoc : Memref sig .tc .vmem S256x1024 .f32 := Memref.whole cc0_scratch6

/-- The offset of chunk `k` inside a quarter, as a word. -/
abbrev offw (k : Fin 8) : BitVec 32 := BitVec.ofNat 32 (32 * k.val)

/-- Start the copy of chunk `k` of `bs` into chunk `k` of `bd` on device `n`, completing on the semaphores of
    class `a` here and of class `a'` there. -/
def sendF (bs bd : Slots) (hs : bs.IsWhole) (hd : bd.IsWhole) (n : Dev nD) (a a' k : Fin 8) : KProg F :=
  .op (.enqueueDma (sl bs k) (.remote (Dev.tc n) (sl bd k) (.dma (dsem a k))) (.dma (dsem a' k))
    ((hs.wordExact_slice rfl _ (slot_words k)).reshape _ _) ((hd.wordExact_slice rfl _ (slot_words k)).reshape _ _)
    ⟨⟨rfl, Or.inl rfl⟩, trivial⟩) .ret

/-- Wait for one copy of chunk `k` from `bs` to `bd` on the semaphore of class `a`. -/
def waitF (bs bd : Slots) (hs : bs.IsWhole) (hd : bd.IsWhole) (a k : Fin 8) : KProg F :=
  .op (.waitDma2 (dsem a k) (sl bs k) (sl bd k)
    ((hs.wordExact_slice rfl _ (slot_words k)).reshape _ _) ((hd.wordExact_slice rfl _ (slot_words k)).reshape _ _)) .ret

/-- Round chunk `k` of the peer's quarter of the input into the staging buffer. -/
def stageF (c : Dev nD) (k : Fin 8) : KProg F :=
  .op (.load bP (Rect.unit (s := S1x1024x1024) (k0_off1 c (offw k)) S1x32x1024.size (k0_off1_inb c k)).toLoadRect
      (View.loadsAt_vmem h_S1x32x1024)) fun v =>
  .op (.load bStage (slotR k).toLoadRect (View.loadsAt_vmem h_S1x32x1024)) fun _ =>
  .op (.store bStage (slotR k) (k0_pay1 v) Finset.univ
      (View.stores_vmem h_S1x32x1024 ((Memref.isWhole_whole cc0_scratch0).storeExact_slice rfl _ (slot_packed k)) (fun _ => rfl))
      (.inl rfl)) .ret

/-- Add the own quarter of the input and of the residual. -/
def locF (c : Dev nD) : KProg F :=
  .op (.load bP (Rect.unit (s := S1x1024x1024) (k0_off2 c) S1x256x1024.size (k0_off2_inb c)).toLoadRect
      (View.loadsAt_vmem h_S1x256x1024)) fun v =>
  .op (.load bR (Rect.unit (s := S1024x1024) (k0_off3 c) S256x1024.size (k0_off3_inb c)).toLoadRect
      (View.loadsAt_vmem h_S256x1024)) fun w =>
  .op (.load bLoc (Rect.unit (s := S256x1024) ![0, 0] S256x1024.size inb_S256x1024_S256x1024_0_0).toLoadRect
      (View.loadsAt_vmem h_S256x1024)) fun _ =>
  .op (.store bLoc (Rect.unit (s := S256x1024) ![0, 0] S256x1024.size inb_S256x1024_S256x1024_0_0) (k0_pay11 v w)
      Finset.univ (View.stores_vmem_bits_univ h_S256x1024 rfl) (.inl rfl)) .ret

/-- Normalise chunk `k`: keep it for the copies and write it to the rows of the result at `off`. -/
def normF (off : Fin 2 → Nat) (hoff : ∀ a, off a + S32x1024.size a ≤ S1024x1024.size a) (k : Fin 8) : KProg F :=
  .op (.load bLoc (Rect.unit (s := S256x1024) ![32 * k.val, 0] S32x1024.size (loc_inb k)).toLoadRect
      (View.loadsAt_vmem h_S32x1024)) fun l =>
  .op (.load bOther (slotR k).toLoadRect (View.loadsAt_vmem h_S1x32x1024)) fun o =>
  .op (.load bG (Rect.unit (s := S1024) ![0] S1024.size inb_S1024_S1024_0).toLoadRect (View.loadsAt_vmem h_S1024)) fun g =>
  .op (.load bOut (slotR k).toLoadRect (View.loadsAt_vmem h_S1x32x1024)) fun _ =>
  .op (.store bOut (slotR k) (k0_pay15 (k0_pay12 l o) (k0_pay13 l o) g) Finset.univ
      (View.stores_vmem h_S1x32x1024 ((Memref.isWhole_whole cc0_scratch2).storeExact_slice rfl _ (slot_packed k)) (fun _ => rfl))
      (.inl rfl)) fun _ =>
  .op (.load bO (Rect.unit (s := S1024x1024) off S32x1024.size hoff).toLoadRect
      (View.loadsAt_vmem h_S32x1024)) fun _ =>
  .op (.store bO (Rect.unit (s := S1024x1024) off S32x1024.size hoff)
      (k0_pay16 (k0_pay12 l o) (k0_pay13 l o) g) Finset.univ (View.stores_vmem_bits_univ h_S32x1024 rfl) (.inl rfl)) .ret

/-- Write the received chunk `k` of `b` to the rows of the result at `off`. -/
def putF (b : Slots) (off : Fin 2 → Nat) (hoff : ∀ a, off a + S32x1024.size a ≤ S1024x1024.size a) (k : Fin 8) : KProg F :=
  .op (.load b (slotR k).toLoadRect (View.loadsAt_vmem h_S1x32x1024)) fun v =>
  .op (.load bO (Rect.unit (s := S1024x1024) off S32x1024.size hoff).toLoadRect (View.loadsAt_vmem h_S32x1024)) fun _ =>
  .op (.store bO (Rect.unit (s := S1024x1024) off S32x1024.size hoff)
      (k0_pay45 v) Finset.univ (View.stores_vmem_bits_univ h_S32x1024 rfl) (.inl rfl)) .ret

/-- Run a fragment over a list of chunks. -/
def loopF (f : Fin 8 → KProg F) : List (Fin 8) → KProg F → KProg F
  | [], r => r
  | k :: ks, r => (f k).bind fun _ => loopF f ks r

theorem w {b : Ref sig .tc} : (Memref.whole b).IsWhole := Memref.isWhole_whole _

def xsendF (c : Dev nD) (k : Fin 8) : KProg F := sendF bStage bOther w w (xn c) 0 1 k
def chunkF (c : Dev nD) (k : Fin 8) : KProg F := do
  normF (k0_off4 c (offw k)) (k0_off4_inb c k) k
  sendF bOut bYin w w (yn c) 2 3 k
  sendF bOut bZin w w (zn c) 4 5 k
def fwdzF (c : Dev nD) (k : Fin 8) : KProg F := do
  waitF bOut bZin w w 5 k
  sendF bZin bDiag w w (yn c) 6 7 k
  putF bZin (k0_off5 c (offw k)) (k0_off5_inb c k) k
def fwdyF (c : Dev nD) (k : Fin 8) : KProg F := do
  waitF bOut bYin w w 3 k
  sendF bYin bDiag w w (zn c) 6 7 k
  putF bYin (k0_off6 c (offw k)) (k0_off6_inb c k) k
def recyF (c : Dev nD) (k : Fin 8) : KProg F := do
  waitF bOut bYin w w 3 k
  putF bYin (k0_off6 c (offw k)) (k0_off6_inb c k) k
def reczF (c : Dev nD) (k : Fin 8) : KProg F := do
  waitF bOut bZin w w 5 k
  putF bZin (k0_off5 c (offw k)) (k0_off5_inb c k) k
def recdF (c : Dev nD) (k : Fin 8) : KProg F := do
  waitF bDiag bDiag w w 7 k
  putF bDiag (k0_off7 c (offw k)) (k0_off7_inb c k) k
def doneF (k : Fin 8) : KProg F := do
  waitF bOther bStage w w 0 k
  waitF bYin bOut w w 2 k
  waitF bZin bOut w w 4 k

/-- The whole body. -/
def bodyF : KProg F :=
  .op .deviceId fun c =>
  (semSignalWord (xn c) barrier0 4#32).bind fun _ =>
  (semSignalWord (yn c) barrier0 1#32).bind fun _ =>
  (semSignalWord (zn c) barrier0 1#32).bind fun _ =>
  loopF (stageF c) [0, 1, 2, 3, 4, 5, 6, 7] <|
  (locF c).bind fun _ =>
  (semWaitWord barrier0 4#32).bind fun _ =>
  loopF (xsendF c) [0, 1, 2, 3, 4, 5, 6, 7] <|
  (waitF bStage bOther w w 1 0).bind fun _ =>
  (semWaitWord barrier0 2#32).bind fun _ =>
  (chunkF c 0).bind fun _ =>
  loopF (fun k => (waitF bStage bOther w w 1 k).bind fun _ => chunkF c k) [1, 2, 3, 4, 5, 6, 7] <|
  loopF (fwdzF c) [0, 1, 2, 3] <|
  loopF (fwdyF c) [4, 5, 6, 7] <|
  loopF (recyF c) [0, 1, 2, 3] <|
  loopF (reczF c) [4, 5, 6, 7] <|
  loopF (recdF c) [0, 1, 2, 3, 4, 5, 6, 7] <|
  loopF doneF [0, 1, 2, 3, 4, 5, 6, 7] <|
  loopF (fun k => waitF bDiag bZin w w 6 k) [0, 1, 2, 3] <|
  loopF (fun k => waitF bDiag bYin w w 6 k) [4, 5, 6, 7] (.ret ⟨⟩)

set_option maxRecDepth 65536 in
/-- The printed body is `bodyF`. -/
theorem body_eq :
    cc0_body (F := F) (win0_0.stage 0) (hstage0_0 0) (win0_1.stage 0) (hstage0_1 0) (win0_2.stage 0) (hstage0_2 0) (win0_3.stage 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16
      = bodyF := by
  chain_rfl

end Cert.KernelIdeal.Ar
end
-- ==== Proof.Protocol.lean ====
/- The protocol of the kernel: its semaphore cells, what each transfer and each signal hands over, and what a device
   owes at each point. -/
module

public import proofs.«01_k».proof.Proof.Frags
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.RefSig (tileCredit tileCredit_pos)

variable {F : FTy → Type} [FloatOps F]

/-! ## The resource algebra -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The memory of every device at launch. -/
abbrev Mem0 (F : FTy → Type) [FloatOps F] := (ℓ : Loc nD τ sig) → Buf (Elt F) ℓ

variable (m : Mem0 F)

/-! ## The mesh -/

/-- The device across the last two axes. -/
abbrev dn (c : Dev nD) : Dev nD := yn (zn c)
/-- The quarter of the rows a device normalises. -/
def qr (c : Dev nD) : Fin 4 := ⟨c.val % 4, Nat.mod_lt _ (by decide)⟩
/-- The device of quarter `s` in the plane of `c`. -/
def qdev (c : Dev nD) (s : Fin 4) : Dev nD := ⟨4 * (c.val / 4) + s.val, by have := c.isLt; have := s.isLt; simp only [nD] at *; omega⟩

theorem xn_xn (c : Dev nD) : xn (xn c) = c := by revert c; decide
theorem yn_yn (c : Dev nD) : yn (yn c) = c := by revert c; decide
theorem zn_zn (c : Dev nD) : zn (zn c) = c := by revert c; decide
theorem dn_yn (c : Dev nD) : dn (yn c) = zn c := by revert c; decide
theorem dn_zn (c : Dev nD) : dn (zn c) = yn c := by revert c; decide
theorem zn_yn (c : Dev nD) : zn (yn c) = dn c := by revert c; decide
theorem qdev_self (c : Dev nD) : qdev c (qr c) = c := by revert c; decide
theorem qdev_yn (c : Dev nD) : qdev c (qr (yn c)) = yn c := by revert c; decide
theorem qdev_zn (c : Dev nD) : qdev c (qr (zn c)) = zn c := by revert c; decide
theorem qdev_dn (c : Dev nD) : qdev c (qr (dn c)) = dn c := by revert c; decide

/-- Chunk `k` of quarter `s` lies inside the result. -/
theorem rows_inb (s : Fin 4) (k : Fin 8) :
    ∀ a, (![256 * s.val + 32 * k.val, 0] : Fin 2 → Nat) a + S32x1024.size a ≤ S1024x1024.size a := by
  revert s k; decide
/-- The rows of chunk `k` of quarter `s`. -/
abbrev rowsR (s : Fin 4) (k : Fin 8) : Rect S1024x1024 :=
  Rect.unit (s := S1024x1024) ![256 * s.val + 32 * k.val, 0] S32x1024.size (rows_inb s k)

theorem off4_rows (c : Dev nD) (k : Fin 8) : k0_off4 c (offw k) = ![256 * (qr c).val + 32 * k.val, 0] := by
  revert c k; decide +kernel
theorem off5_rows (c : Dev nD) (k : Fin 8) : k0_off5 c (offw k) = ![256 * (qr (zn c)).val + 32 * k.val, 0] := by
  revert c k; decide +kernel
theorem off6_rows (c : Dev nD) (k : Fin 8) : k0_off6 c (offw k) = ![256 * (qr (yn c)).val + 32 * k.val, 0] := by
  revert c k; decide +kernel
theorem off7_rows (c : Dev nD) (k : Fin 8) : k0_off7 c (offw k) = ![256 * (qr (dn c)).val + 32 * k.val, 0] := by
  revert c k; decide +kernel

/-! ## Contents -/

abbrev offP (c : Dev nD) (k : Fin 8) : Rect S1x1024x1024 :=
  Rect.unit (s := S1x1024x1024) (k0_off1 c (offw k)) S1x32x1024.size (k0_off1_inb c k)
abbrev ownP (c : Dev nD) : Rect S1x1024x1024 :=
  Rect.unit (s := S1x1024x1024) (k0_off2 c) S1x256x1024.size (k0_off2_inb c)
abbrev ownR (c : Dev nD) : Rect S1024x1024 :=
  Rect.unit (s := S1024x1024) (k0_off3 c) S256x1024.size (k0_off3_inb c)
abbrev locR (k : Fin 8) : Rect S256x1024 :=
  Rect.unit (s := S256x1024) ![32 * k.val, 0] S32x1024.size (loc_inb k)

/-- The block of the partial sums on device `c`. -/
def inP (c : Dev nD) : S1x1024x1024.Idx → Elt F .f32 :=
  (win0_0.blk (0 : Fin 1)).view.read (Elt F) (m ((c : Thread nD τ).loc main_arg0))
/-- The residual on device `c`. -/
def inR (c : Dev nD) : S1024x1024.Idx → Elt F .f32 :=
  (win0_1.blk (0 : Fin 1)).view.read (Elt F) (m ((c : Thread nD τ).loc main_arg1))
/-- The weights on device `c`. -/
def inG (c : Dev nD) : S1024.Idx → Elt F .f32 :=
  (win0_2.blk (0 : Fin 1)).view.read (Elt F) (m ((c : Thread nD τ).loc main_arg2))

/-- The contents of a chunk. -/
abbrev Chunk (F : FTy → Type) [FloatOps F] := S32x1024.Idx → Elt F .bf16

/-- A chunk with the leading unit axis of a buffer. -/
def up (V : Chunk F) : S1x32x1024.Idx → Elt F .bf16 := shapeCast S1x32x1024 V shapeCasts_S32x1024_S1x32x1024

/-- What device `c` sends along the first axis: its rounded partial sums of the peer's quarter. -/
def stV (c : Dev nD) (k : Fin 8) : Chunk F := k0_pay3 ((bP.access (offP c k)).read (Elt F) (inP m c))
/-- The local sum of device `c`: partial sums and residual of its quarter. -/
def locV (c : Dev nD) : S256x1024.Idx → Elt F .f32 :=
  k0_pay11 ((bP.access (ownP c)).read (Elt F) (inP m c)) ((bR.access (ownR c)).read (Elt F) (inR m c))
/-- Chunk `k` of the local sum. -/
def locC (c : Dev nD) (k : Fin 8) : S32x1024.Idx → Elt F .f32 := (bLoc.access (locR k)).read (Elt F) (locV m c)
/-- The normalised chunk `k` of device `c`'s quarter. -/
def outV (c : Dev nD) (k : Fin 8) : Chunk F :=
  k0_pay14 (k0_pay12 (locC m c k) (up (stV m (xn c) k))) (k0_pay13 (locC m c k) (up (stV m (xn c) k))) (inG m c)

/-! ## Chunks held -/

/-- Chunk `k` of buffer `M` of device `c` is held at share `q` and reads `V`. -/
def slotPt (M : Slots) (c : Dev nD) (k : Fin 8) (q : PosShare TreeShare) (V : Chunk F) : sProp 𝕄 :=
  iprop(∃ f : Buf (Elt F) ((sl M k).view.loc (c : Thread nD τ)), ⌜(sl M k).view.read (Elt F) f = V⌝
    ∗ ((sl M k).view.loc (c : Thread nD τ) ↦[(sl M k).view.set]{q} f))
/-- Chunk `k` of buffer `M` of device `c` is held whole, with any contents. -/
def slotAny (M : Slots) (c : Dev nD) (k : Fin 8) : sProp 𝕄 :=
  iprop(∃ f : Buf (Elt F) ((sl M k).view.loc (c : Thread nD τ)),
    ((sl M k).view.loc (c : Thread nD τ) ↦[(sl M k).view.set]{fullShare} f))

omit [FloatOps F] in
instance slotAny_storable (M : Slots) (c : Dev nD) (k : Fin 8) : BI.Storable (upEmb : UEmb _ 𝕄) (slotAny (F := F) M c k) := by
  unfold slotAny; infer_instance
instance slotPt_storable (M : Slots) (c : Dev nD) (k : Fin 8) (q : PosShare TreeShare) (V : Chunk F) :
    BI.Storable (upEmb : UEmb _ 𝕄) (slotPt (F := F) M c k q V) := by
  unfold slotPt; infer_instance

/-! ## Cells and payloads -/

/-- The units of one transfer. -/
abbrev N : ℕ := tileCredit S32x1024 .bf16
theorem N_pos : 0 < N := tileCredit_pos _ _ (by decide)
theorem slot_credit (M : Slots) (k : Fin 8) : (sl M k).view.dmaCredit = N := rfl

abbrev bar (c : Dev nD) : GSem nD τ sig := ((c : Thread nD τ), .reg barrier0)
abbrev dcell (c : Dev nD) (a k : Fin 8) : GSem nD τ sig := ((c : Thread nD τ), .dma (dsem a k))

/-- The buffer a completion of class `a` hands over. -/
def payBuf (a k : Fin 8) : Slots :=
  match a with
  | 0 => bStage | 1 => bOther | 2 => bOut | 3 => bYin | 4 => bOut | 5 => bZin
  | 6 => if k.val < 4 then bZin else bYin
  | 7 => bDiag
/-- The share of it. -/
def paySh (a : Fin 8) : PosShare TreeShare :=
  match a with
  | 2 => fullShare.left | 4 => fullShare.right | 6 => fullShare.left
  | _ => fullShare
/-- What it holds. -/
def payVal (c : Dev nD) (a k : Fin 8) : Chunk F :=
  match a with
  | 0 => stV m c k | 1 => stV m (xn c) k | 2 => outV m c k | 3 => outV m (yn c) k | 4 => outV m c k
  | 5 => outV m (zn c) k
  | 6 => if k.val < 4 then outV m (zn c) k else outV m (yn c) k
  | 7 => outV m (dn c) k
/-- What the completion of class `a` for chunk `k` hands device `c`. -/
def pay (c : Dev nD) (a k : Fin 8) : sProp 𝕄 := slotPt (payBuf a k) c k (paySh a) (payVal m c a k)

instance pay_storable (c : Dev nD) (a k : Fin 8) : BI.Storable (upEmb : UEmb _ 𝕄) (pay m c a k) := by
  unfold pay; infer_instance

/-- The class and chunk of a completion semaphore. -/
def keyOf (n : Nat) : Fin 8 × Fin 8 :=
  if n < 52 then (⟨(n - 4) / 8 % 8, Nat.mod_lt _ (by decide)⟩, ⟨(n - 4) % 8, Nat.mod_lt _ (by decide)⟩)
  else (⟨6 + (n - 52) / 4 % 2, by omega⟩, ⟨((n - 52) % 4 + 4 * ((n - 52) / 8)) % 8, Nat.mod_lt _ (by decide)⟩)
theorem keyOf_dsem (a k : Fin 8) : keyOf (dsem a k).val = (a, k) := by revert a k; decide
theorem dsem_ge (a k : Fin 8) : 4 ≤ (dsem a k).val := by revert a k; decide
theorem dsem_inj {a k a' k' : Fin 8} (h : dsem a k = dsem a' k') : a = a' ∧ k = k' := by
  have := (keyOf_dsem a k).symm.trans ((congrArg (fun q : DmaSem sig => keyOf q.val) h).trans (keyOf_dsem a' k'))
  exact ⟨congrArg Prod.fst this, congrArg Prod.snd this⟩

/-- The cell under whose name the right to the peer's receive buffer changes hands; it carries no units. -/
abbrev esc (c : Dev nD) : GSem nD τ sig := ((c : Thread nD τ), .dma (⟨0, by decide⟩ : DmaSem sig))

/-- What the signals to device `c` hand over: the four units of the first neighbour one right each, those of the other
    two neighbours the buffers into which `c` copies there. -/
def barPay (c : Dev nD) (d : Fin 6) : sProp 𝕄 :=
  if d = 4 then iprop(bigSep Finset.univ (fun k => slotAny bYin (yn c) k)
      ∗ bigSep (Finset.univ.filter fun k : Fin 8 => k.val < 4) (fun k => slotAny bDiag (yn c) k))
  else if d = 5 then iprop(bigSep Finset.univ (fun k => slotAny bZin (zn c) k)
      ∗ bigSep (Finset.univ.filter fun k : Fin 8 => ¬ k.val < 4) (fun k => slotAny bDiag (zn c) k))
  else dutyTok ER (esc c) 0 d

instance barPay_storable (c : Dev nD) (d : Fin 6) : BI.Storable (upEmb : UEmb _ 𝕄) (barPay (F := F) c d) := by
  unfold barPay; split
  · infer_instance
  · split <;> infer_instance

/-- One round on every cell: six unit signals on a barrier cell, one transfer on every completion cell. -/
def Rd : Rounds.Schedule (GSem nD τ sig) (Fin 6) 𝕄 where
  duties g r := if r = 0 ∧ g.1.2 = .tc then (match g.2 with
    | .reg _ => Finset.univ
    | .dma q => if 4 ≤ q.val then {0} else ∅) else ∅
  unitless _ := False
  amount g _ _ := match g.2 with
    | .reg _ => 1
    | .dma _ => N
  payload g _ d := match g.2 with
    | .reg _ => barPay g.1.1 d
    | .dma q => pay m g.1.1 (keyOf q.val).1 (keyOf q.val).2
  amount_pos g _ _ _ := by
    rcases g with ⟨t, s⟩
    cases s with
    | reg _ => exact Nat.one_pos
    | dma _ => exact N_pos

instance Rd_payload_storable (g : GSem nD τ sig) (r : ℕ) (d : Fin 6) :
    BI.Storable (upEmb : UEmb _ 𝕄) ((Rd (F := F) m).payload g r d) := by
  rcases g with ⟨t, s⟩
  cases s with
  | reg _ => exact barPay_storable _ _
  | dma _ => exact pay_storable _ _ _ _

theorem duties_bar (c : Dev nD) : (Rd m).duties (bar c) 0 = Finset.univ := by dsimp only [Rd]; exact if_pos ⟨rfl, rfl⟩
theorem duties_dcell (c : Dev nD) (a k : Fin 8) : (Rd m).duties (dcell c a k) 0 = {0} := by
  dsimp only [Rd]; exact (if_pos ⟨rfl, rfl⟩).trans (if_pos (dsem_ge a k))
theorem duties_later (g : GSem nD τ sig) : ∀ r, 1 ≤ r → (Rd m).duties g r = ∅ :=
  fun r hr => by dsimp only [Rd]; exact if_neg fun h => by omega
theorem amount_dcell (c : Dev nD) (a k : Fin 8) (d : Fin 6) : (Rd m).amount (dcell c a k) 0 d = N := rfl
theorem amount_bar (c : Dev nD) (d : Fin 6) : (Rd m).amount (bar c) 0 d = 1 := rfl
theorem expect_bar (c : Dev nD) : (Rd m).expect (bar c) 0 = 6 := by
  unfold Schedule.expect Schedule.amountOf
  rw [duties_bar, Finset.sum_congr rfl fun d _ => amount_bar m c d, Finset.sum_const, Finset.card_univ, Fintype.card_fin, smul_eq_mul]
theorem expect_dcell (c : Dev nD) (a k : Fin 8) : (Rd m).expect (dcell c a k) 0 = N := by
  unfold Schedule.expect Schedule.amountOf
  rw [duties_dcell, Finset.sum_singleton, amount_dcell]
theorem payload_bar (c : Dev nD) (d : Fin 6) : (Rd m).payload (bar c) 0 d = barPay c d := rfl
theorem payload_dcell (c : Dev nD) (a k : Fin 8) (d : Fin 6) : (Rd m).payload (dcell c a k) 0 d = pay m c a k := by
  show pay m c (keyOf (dsem a k).val).1 (keyOf (dsem a k).val).2 = _
  rw [keyOf_dsem]
theorem rest_dcell (c : Dev nD) (a k : Fin 8) :
    bigSep ((Rd m).duties (dcell c a k) 0 \ ∅) (fun d => (Rd m).payload (dcell c a k) 0 d) = pay m c a k := by
  rw [Finset.sdiff_empty, duties_dcell, bigSep_singleton, payload_dcell]

/-! ## What a device owes -/

/-- A payment: a cell and an amount. -/
abbrev Pmt := GSem nD τ sig × ℕ

/-- The total of a list of payments. -/
def tally : List Pmt → CellTallies nD τ sig Unit
  | [] => 0
  | p :: ps => tally ps + tallyAt p.1 () p.2

def L (g : GSem nD τ sig) : Finset Unit := if g.1.2 = .tc then {()} else ∅
/-- The level of a cell: send cells lowest, then the barrier, then the receive cells in the order of the protocol. -/
def lv (g : GSem nD τ sig) (_ : Unit) : ℕ := match g.2 with
  | .reg _ => 1
  | .dma q => if q.val < 4 then 0 else match (keyOf q.val).1 with
    | 1 => 2 | 3 => 3 | 5 => 3 | 7 => 4 | _ => 0

theorem L_of_ne (g : GSem nD τ sig) (h : g.1.2 ≠ .tc) : L g = ∅ := if_neg h
theorem L_tc (c : Dev nD) (sm : SemLoc sig) : L ((c : Thread nD τ), sm) = {()} := if_pos rfl

/-- Every payment of the list goes to a cell of a main core above level `n`. -/
def Above (n : ℕ) (l : List Pmt) : Prop := ∀ p ∈ l, p.1.1.2 = .tc ∧ n < lv p.1 ()

theorem tally_pos {l : List Pmt} {g : GSem nD τ sig} {u : Unit} (h : 0 < tally l g u) : ∃ p ∈ l, p.1 = g := by
  induction l with
  | nil => exact absurd h (Nat.lt_irrefl 0)
  | cons p ps ih =>
    unfold tally at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨p', h1, h2⟩ := ih h
      exact ⟨p', List.mem_cons_of_mem _ h1, h2⟩

omit [FloatOps F] in
/-- A wait below every payment still owed. -/
theorem mayWait (c : Dev nD) (sm : SemLoc sig) (n : ℕ) (hn : lv ((c : Thread nD τ), sm) () ≤ n) (l : List Pmt) (hl : Above n l) :
    (levAts L lv : sProp 𝕄) ⊢ MayWait (c : Thread nD τ) sm () (tally l) :=
  MayOwe.of_cut (L := L) (lev := lv) n (fun p hp => by rw [Finset.mem_singleton.mp hp, L_tc]; exact Finset.mem_singleton_self _)
    (fun g u hg => by
      obtain ⟨p, hp, rfl⟩ := tally_pos hg
      unfold L; rw [if_pos (hl p hp).1]; exact Finset.mem_singleton_self _)
    (fun p hp => by rw [Finset.mem_singleton.mp hp]; exact hn)
    (fun g u hg => by
      obtain ⟨p, hp, rfl⟩ := tally_pos hg
      exact (hl p hp).2)

/-- The receive cell for chunk `k` of the forwarding copies device `c` makes. -/
abbrev fwdTo (c : Dev nD) (k : Fin 8) : Dev nD := if k.val < 4 then yn c else zn c

def pX (c : Dev nD) (ks : List (Fin 8)) : List Pmt := ks.map fun k => (dcell (xn c) 1 k, N)
def pYZ (c : Dev nD) (ks : List (Fin 8)) : List Pmt := ks.flatMap fun k => [(dcell (yn c) 3 k, N), (dcell (zn c) 5 k, N)]
def pFz (c : Dev nD) (ks : List (Fin 8)) : List Pmt := ks.map fun k => (dcell (yn c) 7 k, N)
def pFy (c : Dev nD) (ks : List (Fin 8)) : List Pmt := ks.map fun k => (dcell (zn c) 7 k, N)

abbrev all8 : List (Fin 8) := [0, 1, 2, 3, 4, 5, 6, 7]
abbrev lo4 : List (Fin 8) := [0, 1, 2, 3]
abbrev hi4 : List (Fin 8) := [4, 5, 6, 7]

/-- Everything device `c` pays after its signals, in program order. -/
def pmtsX (c : Dev nD) : List Pmt := pX c all8 ++ (pYZ c all8 ++ (pFz c lo4 ++ pFy c hi4))
/-- Everything device `c` pays, in program order. -/
def pmts (c : Dev nD) : List Pmt := (bar (xn c), 4) :: (bar (yn c), 1) :: (bar (zn c), 1) :: pmtsX c

/-- Device `c` still owes the payments of `l`. -/
def owing (c : Dev nD) (l : List Pmt) : sProp 𝕄 := iprop(∃ W, owes (c : Thread nD τ) (tally l) W)

end Cert.KernelIdeal.Ar
end
-- ==== Proof.Steps.lean ====
/- The steps a device makes, each stated once for a symbolic device and chunk. -/
module

public import proofs.«01_k».proof.Proof.Protocol

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : Mem0 F)

abbrev 𝒱₀ : Variants := Variants.none

/-! ## The shared facts -/

/-- A semaphore of the protocol: the barrier, or a completion class and chunk. -/
abbrev Key := Option (Fin 8 × Fin 8)
/-- Its cell on a device. -/
abbrev kcell (ck : Dev nD × Key) : GSem nD τ sig := match ck.2 with
  | none => bar ck.1
  | some ak => dcell ck.1 ak.1 ak.2

/-- The right to the receive buffer of `xn c`, passed through a common store: before `xn c` deposits, the four rights its
    signal hands over lie there; after it, the buffer, until `c` exchanges it for its own token. -/
def escrow (c : Dev nD) : sProp 𝕄 :=
  iprop((dutyTok ER (esc c) 0 0 ∗ dutyTok ER (esc c) 0 1 ∗ dutyTok ER (esc c) 0 2 ∗ dutyTok ER (esc c) 0 3)
    ∨ (dutyTok ER (esc c) 0 4 ∗ bigSep Finset.univ (fun k => slotAny bOther (xn c) k))
    ∨ (dutyTok ER (esc c) 0 5 ∗ dutyTok ER (esc c) 0 4))

omit [FloatOps F] in
instance escrow_storable (c : Dev nD) : BI.Storable (upEmb : UEmb _ 𝕄) (escrow (F := F) c) := by
  unfold escrow; infer_instance

/-- What every device may use all along: the invariants of all cells, that each is at its first round, the common
    stores, and the levels. -/
def Ctx (K : Dev nD × Key → ℕ) (KE : Dev nD → ℕ) : sProp 𝕄 :=
  iprop(bigSep Finset.univ (fun ck : Dev nD × Key => iprop(cellInv ER (Rd m) (K ck) (kcell ck) ∗ reached ER (kcell ck) 0))
    ∗ bigSep Finset.univ (fun c : Dev nD => inv (KE c) (escrow c)) ∗ levAts L lv)

instance Ctx_persistent (K : Dev nD × Key → ℕ) (KE : Dev nD → ℕ) : BI.Persistent (Ctx m K KE) := by unfold Ctx; infer_instance

variable (K : Dev nD × Key → ℕ) (KE : Dev nD → ℕ)

omit [FloatOps F] in
/-- One member of a family. -/
theorem pick {I : Type} [Fintype I] [DecidableEq I] (Φ : I → sProp 𝕄) (i : I) : bigSep Finset.univ Φ ⊢ Φ i :=
  bigSep_elim (Finset.mem_univ i)

theorem Ctx_cell (ck : Dev nD × Key) : Ctx m K KE ⊢ cellInv ER (Rd m) (K ck) (kcell ck) :=
  (sep_elim_left).trans ((pick _ ck).trans sep_elim_left)
theorem Ctx_reached (ck : Dev nD × Key) : Ctx m K KE ⊢ reached ER (kcell ck) 0 :=
  (sep_elim_left).trans ((pick _ ck).trans sep_elim_right)
theorem Ctx_escrow (c : Dev nD) : Ctx m K KE ⊢ inv (KE c) (escrow c) :=
  (sep_elim_right).trans (sep_elim_left.trans (pick _ c))
theorem Ctx_lev : Ctx m K KE ⊢ levAts L lv := by
  unfold Ctx
  iintro ⟨-, -, H⟩
  iexact H

/-! ## Running a program of device `c` -/

/-- Device `c`'s program `p` runs to `R`. -/
abbrev wpc (c : Dev nD) (p : KProg F) (R : PUnit → sProp 𝕄) : sProp 𝕄 :=
  wp frame (wpE (defs₀ (F := F)) 𝒱₀ (c : Thread nD τ) none) Set.univ p R

/-- Fragments in a row run one after another. -/
theorem bind2 (f g p : KProg F) : (f.bind fun _ => g).bind (fun _ => p) = f.bind fun _ => g.bind fun _ => p := Prog.bind_assoc f _ _

/-- Started from `P`, the fragment `f` on device `c` ends in `Q`. -/
def Tri (c : Dev nD) (P Q : sProp 𝕄) (f : KProg F) : Prop :=
  ∀ (k : KProg F) (R : PUnit → sProp 𝕄), iprop(Ctx m K KE ∗ P) ⊢ iprop((Q -∗ wpc c k R) -∗ wpc c (f.bind fun _ => k) R)

variable {m K KE}

/-- One fragment after another. -/
theorem Tri.seq {c : Dev nD} {P Q R : sProp 𝕄} {f g : KProg F} (hf : Tri m K KE c P Q f) (hg : Tri m K KE c Q R g) :
    Tri m K KE c P R (f.bind fun _ => g) := by
  intro k R'
  rw [show (f.bind fun _ => g).bind (fun _ => k) = f.bind fun _ => g.bind fun _ => k from Prog.bind_assoc f _ _]
  iintro ⟨#HC, HP⟩ Hk
  iapply (hf (g.bind fun _ => k) R') $$ [HP]
  · isplitr; · iexact HC
    iexact HP
  iintro HQ
  iapply (hg k R') $$ [HQ]
  · isplitr; · iexact HC
    iexact HQ
  iexact Hk

/-- What a fragment does not touch stays. -/
theorem Tri.frame {c : Dev nD} {P Q : sProp 𝕄} {f : KProg F} (X : sProp 𝕄) (hf : Tri m K KE c P Q f) :
    Tri m K KE c iprop(P ∗ X) iprop(Q ∗ X) f := by
  intro k R'
  iintro ⟨#HC, HP, HX⟩ Hk
  iapply (hf k R') $$ [HP]
  · isplitr; · iexact HC
    iexact HP
  iintro HQ
  iapply Hk
  isplitl [HQ] <;> iassumption

/-- A fragment with a stronger start and a weaker end. -/
theorem Tri.conseq {c : Dev nD} {P P' Q Q' : sProp 𝕄} {f : KProg F} (hf : Tri m K KE c P Q f) (hP : P' ⊢ P) (hQ : Q ⊢ Q') :
    Tri m K KE c P' Q' f := by
  intro k R'
  iintro ⟨#HC, HP⟩ Hk
  ihave HP := hP $$ HP
  iapply (hf k R') $$ [HP]
  · isplitr; · iexact HC
    iexact HP
  iintro HQ
  iapply Hk
  iapply hQ; iexact HQ

/-- The separating conjunction along a list. -/
def ch (ks : List (Fin 8)) (A : Fin 8 → sProp 𝕄) : sProp 𝕄 := ks.foldr (fun k P => iprop(A k ∗ P)) iprop(emp)

theorem ch_cons (k : Fin 8) (ks : List (Fin 8)) (A : Fin 8 → sProp 𝕄) : ch (k :: ks) A = iprop(A k ∗ ch ks A) := rfl

/-- A loop: each run of the fragment uses up `A k`, yields `B k`, and moves the common state `S` on. -/
theorem loop_rule {c : Dev nD} {f : Fin 8 → KProg F} {A B : Fin 8 → sProp 𝕄} {S : List (Fin 8) → List (Fin 8) → sProp 𝕄}
    (ks : List (Fin 8))
    (h : ∀ k ∈ ks, ∀ done todo, Tri m K KE c iprop(A k ∗ S done (k :: todo)) iprop(B k ∗ S (k :: done) todo) (f k))
    (done : List (Fin 8)) (rest : KProg F) (R : PUnit → sProp 𝕄) :
    iprop(Ctx m K KE ∗ ch ks A ∗ S done ks) ⊢ iprop((iprop(ch ks B ∗ S (ks.reverse ++ done) []) -∗ wpc c rest R) -∗ wpc c (loopF f ks rest) R) := by
  induction ks generalizing done with
  | nil =>
    iintro ⟨-, Hc, HS⟩ Hk
    unfold loopF
    iapply Hk
    isplitl [Hc]; · iexact Hc
    rw [List.reverse_nil, List.nil_append]
    iexact HS
  | cons k ks ih =>
    unfold loopF
    rw [ch_cons, ch_cons]
    iintro ⟨#HC, ⟨HA, Hc⟩, HS⟩ Hk
    iapply (h k List.mem_cons_self done ks (loopF f ks rest) R) $$ [HA HS]
    · isplitr; · iexact HC
      isplitl [HA] <;> iassumption
    iintro ⟨HB, HS⟩
    iapply (ih (fun k' hk' => h k' (List.mem_cons_of_mem _ hk')) (k :: done)) $$ [Hc HS]
    · isplitr; · iexact HC
      isplitl [Hc]; · iexact Hc
      iexact HS
    iintro ⟨Hc, HS⟩
    iapply Hk
    rw [show (k :: ks).reverse ++ done = ks.reverse ++ k :: done by simp]
    isplitl [HB Hc]
    · isplitl [HB]; · iexact HB
      iexact Hc
    iexact HS

variable (m K KE)

/-! ## Chunks -/

theorem up_def (V : Chunk F) (i : S1x32x1024.Idx) : up V i = V (Shape.reshapeEquiv shapeCasts_S32x1024_S1x32x1024 i) := rfl

/-- Loading a chunk reads what it holds, behind a unit axis. -/
theorem slot_read (M : Slots) (k : Fin 8) (f : M.view.ref.ty.Contents (Elt F)) :
    (M.access (slotR k)).read (Elt F) f = up ((sl M k).view.read (Elt F) f) := by
  funext i
  rw [up_def]
  show _ = (M.access (slotR k)).read (Elt F) f (Shape.reshapeEquiv _ (Shape.reshapeEquiv _ i))
  rw [Shape.reshapeEquiv_reshapeEquiv, Shape.reshapeEquiv_self]

/-- Storing into a chunk makes it hold what is stored. -/
theorem slot_write (M : Slots) (k : Fin 8) (f : M.view.ref.ty.Contents (Elt F)) (V : Chunk F) :
    (sl M k).view.read (Elt F) ((M.access (slotR k)).write (Elt F) f (up V) Finset.univ) = V := by
  funext j
  show (M.access (slotR k)).read (Elt F) ((M.access (slotR k)).write (Elt F) f (up V) Finset.univ) (Shape.reshapeEquiv _ j) = _
  rw [View.read_write_univ, up_def, Shape.reshapeEquiv_reshapeEquiv, Shape.reshapeEquiv_self]

theorem slot_set (M : Slots) (k : Fin 8) : (M.access (slotR k)).set = (sl M k).view.set := by
  exact (View.set_reshape (v := M.view.slice (slotR k)) squeezes_S1x32x1024_S32x1024.numel_eq).symm

/-- Load chunk `k`. -/
theorem load_slot (c : Dev nD) (M : Slots) (k : Fin 8) (q : PosShare TreeShare) (V : Chunk F)
    {hl : M.view.LoadsAt (slotR k).toLoadRect} {p : (S1x32x1024.Idx → Elt F .bf16) → KProg F} {R : PUnit → sProp 𝕄} :
    slotPt M c k q V ⊢ iprop((slotPt M c k q V -∗ wpc c (p (up V)) R) -∗ wpc c (.op (.load M (slotR k).toLoadRect hl) p) R) := by
  unfold slotPt
  iintro ⟨%f, %hf, H⟩ Hk
  iapply (wp_load_rect 𝒱₀ (c : Thread nD τ) none Set.univ (m := M) (r := slotR k) (by rw [slot_set])) $$ H
  iintro H
  rw [slot_read, hf]
  iapply Hk
  iexists f
  isplitr; · ipureintro; exact hf
  iexact H

/-- Load chunk `k`, whatever it holds. -/
theorem load_any (c : Dev nD) (M : Slots) (k : Fin 8)
    {hl : M.view.LoadsAt (slotR k).toLoadRect} {p : KProg F} {R : PUnit → sProp 𝕄} :
    slotAny M c k ⊢ iprop((slotAny M c k -∗ wpc c p R) -∗ wpc c (.op (.load M (slotR k).toLoadRect hl) fun _ => p) R) := by
  unfold slotAny
  iintro ⟨%f, H⟩ Hk
  iapply (wp_load_rect 𝒱₀ (c : Thread nD τ) none Set.univ (m := M) (r := slotR k) (by rw [slot_set])) $$ H
  iintro H
  iapply Hk
  iexists f
  iexact H

/-- Store into chunk `k`. -/
theorem store_slot (c : Dev nD) (M : Slots) (k : Fin 8) (V : Chunk F)
    {hx : (M.access (slotR k)).Stores Finset.univ} {hm : Finset.univ = Finset.univ ∨ ∀ a, (slotR k).stride a = 1}
    {p : PUnit → KProg F} {R : PUnit → sProp 𝕄} :
    slotAny M c k ⊢ iprop((slotPt M c k fullShare V -∗ wpc c (p ⟨⟩) R) -∗ wpc c (.op (.store M (slotR k) (up V) Finset.univ hx hm) p) R) := by
  unfold slotAny slotPt
  iintro ⟨%f, H⟩ Hk
  iapply (wp_store 𝒱₀ (c : Thread nD τ) none Set.univ (m := M) (r := slotR k) (by rw [View.setOn_univ, slot_set])) $$ H
  iintro H
  iapply Hk
  iexists _
  isplitr; · ipureintro; exact slot_write M k f V
  iexact H

/-- Holding a chunk whole is holding its two halves. -/
theorem slot_halves (M : Slots) (c : Dev nD) (k : Fin 8) (V : Chunk F) :
    slotPt M c k fullShare V ⊢ iprop(slotPt M c k fullShare.left V ∗ slotPt M c k fullShare.right V) := by
  unfold slotPt
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

theorem slot_whole (M : Slots) (c : Dev nD) (k : Fin 8) (V : Chunk F) :
    slotPt M c k fullShare V ⊢ slotAny (F := F) M c k := by
  unfold slotPt slotAny
  iintro ⟨%f, -, H⟩
  iexists f; iexact H

/-- The two halves make a whole, though their contents are given apart. -/
theorem slot_join (M : Slots) (c : Dev nD) (k : Fin 8) (V V' : Chunk F) :
    iprop(slotPt M c k fullShare.left V ∗ slotPt M c k fullShare.right V') ⊢ slotAny (F := F) M c k := by
  unfold slotPt slotAny
  iintro ⟨⟨%f, -, H1⟩, ⟨%g, -, H2⟩⟩
  ihave H := (persistent_entails_right (pointsTo_agree (f := f) (g := g))) $$ [H1 H2]
  · isplitl [H1] <;> iassumption
  icases H with ⟨%hag, H1, H2⟩
  ihave H2 := (Entails.of_eq (pointsTo_congr (f := g) (g := f) fun i hi =>
    ((hag i (Finset.mem_inter.mpr ⟨hi, hi⟩)).1).symm)) $$ H2
  iexists f
  iapply (pointsTo_share (PosShare.mem_left_op_right fullShare)).2
  isplitl [H1] <;> iassumption

/-! ## Transfers and waits -/

/-- Device `c` may wait on its completion semaphore of class `a` and chunk `k`. -/
def waitable (c : Dev nD) (a k : Fin 8) : sProp 𝕄 :=
  iprop(cred (tallyAt (dcell c a k) () N) ∗ atPos ER (dcell c a k) 0 ∅ 0)

variable {m K KE}

/-- A copy of chunk `k` into a chunk the sender holds on the receiving device. -/
theorem send_tri (c n : Dev nD) (bs bd : Slots) (hs : bs.IsWhole) (hd : bd.IsWhole) (a a' k : Fin 8) (q : PosShare TreeShare) (V : Chunk F)
    (l : List Pmt) (h1 : slotPt bs c k q V ⊢ pay m c a k) (h2 : slotPt bd n k fullShare V ⊢ pay m n a' k) :
    Tri m K KE c
      iprop(slotPt bs c k q V ∗ slotAny bd n k ∗ owing c ((dcell n a' k, N) :: l) ∗ atPos ER (dcell c a k) 0 ∅ 0
        ∗ dutyTok ER (dcell c a k) 0 0 ∗ dutyTok ER (dcell n a' k) 0 0)
      iprop(waitable c a k ∗ owing c l) (sendF bs bd hs hd n a a' k) := by
  intro p R
  unfold sendF
  iintro ⟨#HC, Hs, Hd, Ho, Hat, Ht1, Ht2⟩ Hk
  unfold owing slotAny
  icases Hd with ⟨%fd, Hd⟩
  icases Ho with ⟨%W, Ho⟩
  unfold slotPt
  icases Hs with ⟨%fs, %hfs, Hs⟩
  ihave #Hi1 := (Ctx_cell m K KE (c, some (a, k))) $$ HC
  ihave #Hi2 := (Ctx_cell m K KE (n, some (a', k))) $$ HC
  ihave #Hr1 := (Ctx_reached m K KE (c, some (a, k))) $$ HC
  ihave #Hr2 := (Ctx_reached m K KE (n, some (a', k))) $$ HC
  iapply (Rounds.wp_send_pointsTo 𝒱₀ ER (Rd m) (c : Thread nD τ) none (κ₁ := K (c, some (a, k))) (κ₂ := K (n, some (a', k)))
    (c' := (n : Thread nD τ)) (src := sl bs k) (dst := sl bd k)
    (r₁ := 0) (r₂ := 0) (d₁ := 0) (d₂ := 0) (fd := fd) (fs := fs) (q := q)
    (by rw [duties_dcell]; exact Finset.mem_singleton_self _) (by rw [duties_dcell]; exact Finset.mem_singleton_self _)
    () () N rfl (amount_dcell m c a k 0) (amount_dcell m n a' k 0) (tally l) rfl (W := W)
    (by
      rw [payload_dcell]
      refine BIBase.Entails.trans ?_ h1
      unfold slotPt
      iintro H
      iexists fs; isplitr; · ipureintro; exact hfs
      iexact H)
    (by
      rw [payload_dcell]
      refine BIBase.Entails.trans ?_ h2
      unfold slotPt
      iintro H
      iexists ((sl bd k).view.write (Elt F) fd ((sl bs k).view.read (Elt F) fs) Finset.univ); isplitr
      · ipureintro; rw [View.read_write_univ]; exact hfs
      iexact H)) $$ [Hs Hd Ho Ht1 Ht2]
  · isplitr; · iexact Hi1
    isplitr; · iexact Hi2
    isplitl [Hs]; · iexact Hs
    isplitl [Hd]; · iexact Hd
    isplitl [Ho]; · iexact Ho
    isplitl [Ht1]; · iexact Ht1
    isplitr; · iexact Hr1
    isplitl [Ht2]; · iexact Ht2
    iexact Hr2
  iintro ⟨Hc, Ho⟩
  iapply Hk
  unfold waitable
  isplitl [Hc Hat]
  · isplitl [Hc] <;> iassumption
  iexists W; iexact Ho

/-- Wait for one completion and close its cell. -/
theorem wait_tri (c : Dev nD) (bs bd : Slots) (hs : bs.IsWhole) (hd : bd.IsWhole) (a k : Fin 8)
    (l : List Pmt) (hl : Above (lv (dcell c a k) ()) l) :
    Tri m K KE c iprop(waitable c a k ∗ owing c l) iprop(pay m c a k ∗ semVal (dcell c a k) 0 ∗ owing c l)
      (waitF bs bd hs hd a k) := by
  intro p R
  unfold waitF waitable owing
  iintro ⟨#HC, ⟨Hc, Hat⟩, ⟨%W, Ho⟩⟩ Hk
  ihave #Hi := (Ctx_cell m K KE (c, some (a, k))) $$ HC
  ihave #Hlev := (Ctx_lev m K KE) $$ HC
  iapply (Rounds.wp_wait_rest_token 𝒱₀ ER (Rd m) (c : Thread nD τ) none (κ := K (c, some (a, k))) (sm := .dma (dsem a k))
      (wpE_waitDma2_eq 𝒱₀ (c : Thread nD τ) none Set.univ) (Set.mem_univ _) () (O := tally l) (W := W) (R := 0) (m := 0) (T := ∅)
      (by rw [Nat.zero_add, expect_dcell])) $$ [Hc Ho Hat]
  · isplitr; · iexact Hi
    isplitl [Hc]; · iexact Hc
    isplitl [Ho]; · iexact Ho
    isplitr; · iapply (mayWait c (.dma (dsem a k)) _ le_rfl l hl); iexact Hlev
    iexact Hat
  iintro ⟨Ho, Hat, -, Hpay⟩
  ihave Hpay := (Entails.of_eq (rest_dcell m c a k)) $$ Hpay
  imod (Rounds.cell_close ER (Rd m) (Set.mem_univ (K (c, some (a, k)))) (fun h => h) (R := 0 + 1) (duties_later m (dcell c a k))) $$ [Hat] with Hz
  · isplitr; · iexact Hi
    iexact Hat
  iapply Hk
  isplitl [Hpay]; · iexact Hpay
  isplitl [Hz]; · iexact Hz
  iexists _; iexact Ho

end Cert.KernelIdeal.Ar
end
-- ==== Proof.Work.lean ====
/- The fragments of the body, each as one step from what it uses to what it leaves. -/
module

public import proofs.«01_k».proof.Proof.Steps
public import Idealize.ShloMosaic.Lib.ViewIndex

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : Mem0 F) (K : Dev nD × Key → ℕ) (KE : Dev nD → ℕ)

/-! ## The buffers held whole -/

/-- Buffer `b` of device `c` holds `X`. -/
abbrev pt (c : Dev nD) (b : Ref sig .tc) (X : b.ty.Contents (Elt F)) : sProp 𝕄 :=
  ((c : Thread nD τ).loc b ↦{fullShare} (X : Buf (Elt F) ((c : Thread nD τ).loc b)))

/-- The partial sums. -/
def hP (c : Dev nD) : sProp 𝕄 := pt c cc0_stg0_0 (inP m c)
/-- The residual. -/
def hR (c : Dev nD) : sProp 𝕄 := pt c cc0_stg1_0 (inR m c)
/-- The weights. -/
def hG (c : Dev nD) : sProp 𝕄 := pt c cc0_stg2_0 (inG m c)
/-- The local sum. -/
def hL (c : Dev nD) : sProp 𝕄 := pt c cc0_scratch6 (locV m c)

/-- A chunk widened to the type of the result. -/
def ext (V : Chunk F) : S32x1024.Idx → Elt F .f32 := extf .f32 V bitsLt_bf16_f32

/-- The result buffer holds the normalised chunks of the list `T` of quarters and chunks. -/
def oDone (c : Dev nD) (T : List (Fin 4 × Fin 8)) : sProp 𝕄 :=
  iprop(∃ f : (cc0_stg3_0 : Ref sig .tc).ty.Contents (Elt F),
    ⌜∀ sk ∈ T, (bO.access (rowsR sk.1 sk.2)).read (Elt F) f = ext (outV m (qdev c sk.1) sk.2)⌝ ∗ pt c cc0_stg3_0 f)

theorem pay45_up (V : Chunk F) : k0_pay45 (up V) = ext V := by
  have h : shapeCast S32x1024 (up V) shapeCasts_S1x32x1024_S32x1024 = V := by
    funext j
    show up V (Shape.reshapeEquiv _ j) = _
    rw [up_def, Shape.reshapeEquiv_reshapeEquiv, Shape.reshapeEquiv_self]
  unfold k0_pay45 ext
  dsimp only
  rw [h]

/-- Two different chunks of the result are apart. -/
theorem rows_disjoint {s s' : Fin 4} {k k' : Fin 8} (h : (s, k) ≠ (s', k')) : Disjoint (rowsR s k).set (rowsR s' k').set := by
  refine Rect.disjoint_of_separated _ _ 0 ?_
  revert h; revert s s' k k'; decide +kernel

/-- Write one chunk of the result. -/
theorem put_o (c : Dev nD) (T : List (Fin 4 × Fin 8)) (s : Fin 4) (k : Fin 8) (off : Fin 2 → Nat)
    (hoff : ∀ a, off a + S32x1024.size a ≤ S1024x1024.size a) (h : off = ![256 * s.val + 32 * k.val, 0])
    {hl : bO.view.LoadsAt (Rect.unit (s := S1024x1024) off S32x1024.size hoff).toLoadRect}
    {hx : (bO.access (Rect.unit (s := S1024x1024) off S32x1024.size hoff)).Stores Finset.univ}
    {hm : Finset.univ = Finset.univ ∨ ∀ a, (Rect.unit (s := S1024x1024) off S32x1024.size hoff).stride a = 1}
    {V : S32x1024.Idx → Elt F .f32} (hV : V = ext (outV m (qdev c s) k)) {p : PUnit → KProg F} {R : PUnit → sProp 𝕄} :
    oDone m c T ⊢ iprop((oDone m c ((s, k) :: T) -∗ wpc c (p ⟨⟩) R)
      -∗ wpc c (.op (.load bO (Rect.unit (s := S1024x1024) off S32x1024.size hoff).toLoadRect hl) fun _ =>
        .op (.store bO (Rect.unit (s := S1024x1024) off S32x1024.size hoff) V Finset.univ hx hm) p) R) := by
  subst h
  unfold oDone
  iintro ⟨%f, %hf, H⟩ Hk
  iapply (wp_load_rect 𝒱₀ (c : Thread nD τ) none Set.univ (m := bO) (r := rowsR s k) (Finset.subset_univ _)) $$ H
  iintro H
  iapply (wp_store 𝒱₀ (c : Thread nD τ) none Set.univ (m := bO) (r := rowsR s k) (Finset.subset_univ _)) $$ H
  iintro H
  iapply Hk
  iexists _
  isplitr
  rotate_left
  · iexact H
  · ipureintro
    intro sk hsk
    by_cases he : sk = (s, k)
    · subst he
      exact (View.read_write_univ _ _).trans hV
    · have hd : Disjoint (bO.view.slice (rowsR sk.1 sk.2)).set ((bO.view.slice (rowsR s k)).setOn Finset.univ) := by
        rw [View.setOn_univ]
        exact View.disjoint_slice (v := bO.view) (rows_disjoint (s := sk.1) (k := sk.2) he)
      have e := View.read_slice_write_slice_of_disjoint (Val := Elt F) (v := bO.view) (rowsR sk.1 sk.2) (rowsR s k) f V Finset.univ hd
      exact e.trans (hf sk ((List.mem_cons.mp hsk).resolve_left he))

theorem hz2 : (![0, 0] : Fin 2 → Nat) = fun _ => 0 := funext fun a => by fin_cases a <;> rfl
theorem hz1 : (![0] : Fin 1 → Nat) = fun _ => 0 := funext fun a => by fin_cases a; rfl

/-- Storing the whole local sum leaves what is stored. -/
theorem write_loc (f w : (cc0_scratch6 : Ref sig .tc).ty.Contents (Elt F)) :
    (bLoc.access (Rect.unit (s := S256x1024) ![0, 0] S256x1024.size inb_S256x1024_S256x1024_0_0) : View sig .tc _ _ _).write (Elt F) f w
      Finset.univ = w :=
  Memref.write_access_unit_zero_univ (Elt F) cc0_scratch6 hz2 _ f w

/-- Loading all weights reads them. -/
theorem read_weights (f : (cc0_stg2_0 : Ref sig .tc).ty.Contents (Elt F)) :
    (bG.access (Rect.unit (s := S1024) ![0] S1024.size inb_S1024_S1024_0) : View sig .tc _ _ _).read (Elt F) f = f :=
  Memref.readAt_unit_zero (Elt F) cc0_stg2_0 hz1 _ f

variable {m K KE}

/-! ## The fragments -/

/-- Stage one chunk. -/
theorem stage_tri (c : Dev nD) (k : Fin 8) :
    Tri m K KE c iprop(slotAny bStage c k ∗ hP m c) iprop(slotPt bStage c k fullShare (stV m c k) ∗ hP m c) (stageF c k) := by
  intro p R
  unfold stageF hP
  simp only [Prog.bind_op, Prog.bind_ret]
  iintro ⟨-, Hs, HP⟩ Hk
  iapply (wp_load_rect 𝒱₀ (c : Thread nD τ) none Set.univ (m := bP) (r := offP c k) (Finset.subset_univ _)) $$ HP
  iintro HP
  iapply (load_any c bStage k) $$ Hs
  iintro Hs
  iapply (store_slot c bStage k (stV m c k)) $$ Hs
  iintro Hs
  iapply Hk
  isplitl [Hs] <;> iassumption

/-- Form the local sum. -/
theorem loc_tri (c : Dev nD) (f₀ : (cc0_scratch6 : Ref sig .tc).ty.Contents (Elt F)) :
    Tri m K KE c iprop(pt c cc0_scratch6 f₀ ∗ hP m c ∗ hR m c) iprop(hL m c ∗ hP m c ∗ hR m c) (locF c) := by
  intro p R
  unfold locF hP hR hL
  simp only [Prog.bind_op, Prog.bind_ret]
  iintro ⟨-, HL, HP, HR⟩ Hk
  iapply (wp_load_rect 𝒱₀ (c : Thread nD τ) none Set.univ (m := bP) (r := ownP c) (Finset.subset_univ _)) $$ HP
  iintro HP
  iapply (wp_load_rect 𝒱₀ (c : Thread nD τ) none Set.univ (m := bR) (r := ownR c) (Finset.subset_univ _)) $$ HR
  iintro HR
  iapply (wp_load_rect 𝒱₀ (c : Thread nD τ) none Set.univ (m := bLoc)
    (r := Rect.unit (s := S256x1024) ![0, 0] S256x1024.size inb_S256x1024_S256x1024_0_0) (Finset.subset_univ _)) $$ HL
  iintro HL
  iapply (wp_store 𝒱₀ (c : Thread nD τ) none Set.univ (m := bLoc)
    (r := Rect.unit (s := S256x1024) ![0, 0] S256x1024.size inb_S256x1024_S256x1024_0_0) (Finset.subset_univ _)) $$ HL
  iintro HL
  iapply Hk
  isplitl [HL]
  · rw [write_loc]
    iexact HL
  isplitl [HP] <;> iassumption

/-- Normalise one chunk of the own quarter. -/
theorem norm_tri (c : Dev nD) (k : Fin 8) (T : List (Fin 4 × Fin 8)) :
    Tri m K KE c
      iprop(slotPt bOther c k fullShare (stV m (xn c) k) ∗ slotAny bOut c k ∗ hL m c ∗ hG m c ∗ oDone m c T)
      iprop(slotPt bOther c k fullShare (stV m (xn c) k) ∗ slotPt bOut c k fullShare (outV m c k) ∗ hL m c ∗ hG m c
        ∗ oDone m c ((qr c, k) :: T)) (normF (k0_off4 c (offw k)) (k0_off4_inb c k) k) := by
  intro p R
  unfold normF hL hG
  simp only [Prog.bind_op, Prog.bind_ret]
  iintro ⟨-, Ho, Hs, HL, HG, HO⟩ Hk
  iapply (wp_load_rect 𝒱₀ (c : Thread nD τ) none Set.univ (m := bLoc) (r := locR k) (Finset.subset_univ _)) $$ HL
  iintro HL
  iapply (load_slot c bOther k) $$ Ho
  iintro Ho
  iapply (wp_load_rect 𝒱₀ (c : Thread nD τ) none Set.univ (m := bG)
    (r := Rect.unit (s := S1024) ![0] S1024.size inb_S1024_S1024_0) (Finset.subset_univ _)) $$ HG
  iintro HG
  rw [read_weights]
  iapply (load_any c bOut k) $$ Hs
  iintro Hs
  iapply (store_slot c bOut k (outV m c k)) $$ Hs
  iintro Hs
  iapply (put_o m c T (qr c) k _ (k0_off4_inb c k) (off4_rows c k) (by rw [qdev_self]; rfl)) $$ HO
  iintro HO
  iapply Hk
  isplitl [Ho]; · iexact Ho
  isplitl [Hs]; · iexact Hs
  isplitl [HL]; · iexact HL
  isplitl [HG] <;> iassumption

/-- Write one received chunk to the result. -/
theorem put_tri (c : Dev nD) (b : Slots) (q : PosShare TreeShare) (s : Fin 4) (k : Fin 8) (T : List (Fin 4 × Fin 8)) (off : Fin 2 → Nat)
    (hoff : ∀ a, off a + S32x1024.size a ≤ S1024x1024.size a) (h : off = ![256 * s.val + 32 * k.val, 0])
    (n : Dev nD) (hn : qdev c s = n) :
    Tri m K KE c iprop(slotPt b c k q (outV m n k) ∗ oDone m c T)
      iprop(slotPt b c k q (outV m n k) ∗ oDone m c ((s, k) :: T)) (putF b off hoff k) := by
  intro p R
  subst hn
  unfold putF
  simp only [Prog.bind_op, Prog.bind_ret]
  iintro ⟨-, Hs, HO⟩ Hk
  iapply (load_slot c b k) $$ Hs
  iintro Hs
  iapply (put_o m c T s k off hoff h (pay45_up _)) $$ HO
  iintro HO
  iapply Hk
  isplitl [Hs] <;> iassumption

end Cert.KernelIdeal.Ar
end
-- ==== Proof.Chunks.lean ====
/- What one chunk goes through: the copy along the first axis, the normalisation with its two copies, the forwarding,
   the receipt and the final waits. -/
module

public import proofs.«01_k».proof.Proof.Work

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : Mem0 F) (K : Dev nD × Key → ℕ) (KE : Dev nD → ℕ)

/-! ## Levels -/

/-- The level of a completion class. -/
def lvOf (a : Fin 8) : ℕ := match a with | 1 => 2 | 3 => 3 | 5 => 3 | 7 => 4 | _ => 0

theorem lv_dcell (c : Dev nD) (a k : Fin 8) : lv (dcell c a k) () = lvOf a := by
  revert a k
  unfold lv
  dsimp only
  decide +kernel

theorem Above.nil (n : ℕ) : Above n [] := fun p hp => absurd hp List.not_mem_nil
theorem Above.append {n : ℕ} {l l' : List Pmt} (h : Above n l) (h' : Above n l') : Above n (l ++ l') :=
  fun p hp => (List.mem_append.mp hp).elim (h p) (h' p)
theorem above_pX (n : ℕ) (hn : n < 2) (c : Dev nD) (ks : List (Fin 8)) : Above n (pX c ks) := fun p hp => by
  obtain ⟨k, -, rfl⟩ := List.mem_map.mp hp
  exact ⟨rfl, by rw [lv_dcell]; exact hn⟩
theorem above_pYZ (n : ℕ) (hn : n < 3) (c : Dev nD) (ks : List (Fin 8)) : Above n (pYZ c ks) := fun p hp => by
  obtain ⟨k, -, hk⟩ := List.mem_flatMap.mp hp
  rcases List.mem_cons.mp hk with rfl | hk
  · exact ⟨rfl, by rw [lv_dcell]; exact hn⟩
  · rw [List.mem_singleton.mp hk]
    exact ⟨rfl, by rw [lv_dcell]; exact hn⟩
theorem above_pFz (n : ℕ) (hn : n < 4) (c : Dev nD) (ks : List (Fin 8)) : Above n (pFz c ks) := fun p hp => by
  obtain ⟨k, -, rfl⟩ := List.mem_map.mp hp
  exact ⟨rfl, by rw [lv_dcell]; exact hn⟩
theorem above_pFy (n : ℕ) (hn : n < 4) (c : Dev nD) (ks : List (Fin 8)) : Above n (pFy c ks) := fun p hp => by
  obtain ⟨k, -, rfl⟩ := List.mem_map.mp hp
  exact ⟨rfl, by rw [lv_dcell]; exact hn⟩

/-! ## What a chunk uses -/

/-- Device `c` is at the start of its completion cell. -/
abbrev at0 (c : Dev nD) (a k : Fin 8) : sProp 𝕄 := atPos ER (dcell c a k) 0 ∅ 0
/-- The right to the completion of class `a` for chunk `k` on device `c`. -/
abbrev tk (c : Dev nD) (a k : Fin 8) : sProp 𝕄 := dutyTok ER (dcell c a k) 0 0
/-- The cell of class `a` for chunk `k` is done with. -/
abbrev sv (c : Dev nD) (a k : Fin 8) : sProp 𝕄 := semVal (dcell c a k) 0

/-- What the normalisation of chunk `k` and its two copies use. -/
def chunkRes (c : Dev nD) (k : Fin 8) : sProp 𝕄 :=
  iprop(slotAny bOut c k ∗ slotAny bYin (yn c) k ∗ slotAny bZin (zn c) k ∗ at0 c 2 k ∗ at0 c 4 k
    ∗ tk c 2 k ∗ tk (yn c) 3 k ∗ tk c 4 k ∗ tk (zn c) 5 k)
/-- The state between the chunks: local sum, weights, the result so far, and what is still owed. -/
def resS (c : Dev nD) (T : List (Fin 4 × Fin 8)) (l : List Pmt) : sProp 𝕄 :=
  iprop(hL m c ∗ hG m c ∗ oDone m c T ∗ owing c l)
/-- The state between the later chunks: the result so far and what is still owed. -/
def outS (c : Dev nD) (T : List (Fin 4 × Fin 8)) (l : List Pmt) : sProp 𝕄 := iprop(oDone m c T ∗ owing c l)
/-- The staged chunk of the peer. -/
abbrev gotX (c : Dev nD) (k : Fin 8) : sProp 𝕄 := slotPt bOther c k fullShare (stV m (xn c) k)

variable {m K KE}

/-- The copy of chunk `k` along the first axis. -/
theorem xsend_tri (c : Dev nD) (k : Fin 8) (todo : List (Fin 8)) (rest : List Pmt) :
    Tri m K KE c
      iprop((slotPt bStage c k fullShare (stV m c k) ∗ slotAny bOther (xn c) k ∗ at0 c 0 k ∗ tk c 0 k ∗ tk (xn c) 1 k)
        ∗ owing c (pX c (k :: todo) ++ rest))
      iprop(waitable c 0 k ∗ owing c (pX c todo ++ rest)) (xsendF c k) := by
  refine (send_tri c (xn c) bStage bOther w w 0 1 k fullShare (stV m c k) (pX c todo ++ rest) ?_ ?_).conseq ?_ (BI.Entails.refl _)
  · exact BI.Entails.refl _
  · unfold pay payVal; rw [xn_xn]; exact BI.Entails.refl _
  · iintro ⟨⟨Hs, Hd, Ha, Ht, Ht'⟩, Ho⟩
    isplitl [Hs]; · iexact Hs
    isplitl [Hd]; · iexact Hd
    isplitl [Ho]; · iexact Ho
    isplitl [Ha]; · iexact Ha
    isplitl [Ht] <;> iassumption

/-- Normalise chunk `k` and start its two copies. -/
theorem chunk_tri (c : Dev nD) (k : Fin 8) (T : List (Fin 4 × Fin 8)) (todo : List (Fin 8)) (rest : List Pmt) :
    Tri m K KE c
      iprop((gotX m c k ∗ chunkRes c k) ∗ resS m c T (pYZ c (k :: todo) ++ rest))
      iprop((gotX m c k ∗ waitable c 2 k ∗ waitable c 4 k) ∗ resS m c ((qr c, k) :: T) (pYZ c todo ++ rest)) (chunkF c k) := by
  intro p R
  show _ ⊢ iprop((_ -∗ wpc c p R) -∗ wpc c (((normF (k0_off4 c (offw k)) (k0_off4_inb c k) k).bind fun _ =>
    (sendF bOut bYin w w (yn c) 2 3 k).bind fun _ => sendF bOut bZin w w (zn c) 4 5 k).bind fun _ => p) R)
  rw [bind2, bind2]
  unfold resS chunkRes
  iintro ⟨#HC, ⟨Hx, Hs, Hy, Hz, Ha2, Ha4, T2, T3, T4, T5⟩, HL, HG, HO, Ho⟩ Hk
  iapply (norm_tri (m := m) (K := K) (KE := KE) c k T _ _) $$ [Hx Hs HL HG HO]
  · isplitr; · iexact HC
    isplitl [Hx]; · iexact Hx
    isplitl [Hs]; · iexact Hs
    isplitl [HL]; · iexact HL
    isplitl [HG] <;> iassumption
  iintro ⟨Hx, Hs, HL, HG, HO⟩
  ihave Hs := (slot_halves bOut c k (outV m c k)) $$ Hs
  icases Hs with ⟨Hs1, Hs2⟩
  iapply (send_tri (m := m) (K := K) (KE := KE) c (yn c) bOut bYin w w 2 3 k fullShare.left (outV m c k)
    ((dcell (zn c) 5 k, N) :: (pYZ c todo ++ rest)) (BI.Entails.refl _)
    (by unfold pay payVal; rw [yn_yn]; exact BI.Entails.refl _) _ _) $$ [Hs1 Hy Ho Ha2 T2 T3]
  · isplitr; · iexact HC
    isplitl [Hs1]; · iexact Hs1
    isplitl [Hy]; · iexact Hy
    isplitl [Ho]; · iexact Ho
    isplitl [Ha2]; · iexact Ha2
    isplitl [T2] <;> iassumption
  iintro ⟨Hw2, Ho⟩
  iapply (send_tri (m := m) (K := K) (KE := KE) c (zn c) bOut bZin w w 4 5 k fullShare.right (outV m c k)
    (pYZ c todo ++ rest) (BI.Entails.refl _)
    (by unfold pay payVal; rw [zn_zn]; exact BI.Entails.refl _) _ _) $$ [Hs2 Hz Ho Ha4 T4 T5]
  · isplitr; · iexact HC
    isplitl [Hs2]; · iexact Hs2
    isplitl [Hz]; · iexact Hz
    isplitl [Ho]; · iexact Ho
    isplitl [Ha4]; · iexact Ha4
    isplitl [T4] <;> iassumption
  iintro ⟨Hw4, Ho⟩
  iapply Hk
  isplitl [Hx Hw2 Hw4]
  · isplitl [Hx]; · iexact Hx
    isplitl [Hw2] <;> iassumption
  isplitl [HL]; · iexact HL
  isplitl [HG]; · iexact HG
  isplitl [HO] <;> iassumption

/-- Wait for chunk `k` of the peer, then normalise and copy. -/
theorem wchunk_tri (c : Dev nD) (k : Fin 8) (T : List (Fin 4 × Fin 8)) (todo : List (Fin 8)) (rest : List Pmt) (hr : Above 2 rest) :
    Tri m K KE c
      iprop((waitable c 1 k ∗ chunkRes c k) ∗ resS m c T (pYZ c (k :: todo) ++ rest))
      iprop((sv c 1 k ∗ gotX m c k ∗ waitable c 2 k ∗ waitable c 4 k) ∗ resS m c ((qr c, k) :: T) (pYZ c todo ++ rest))
      ((waitF bStage bOther w w 1 k).bind fun _ => chunkF c k) := by
  intro p R
  rw [bind2]
  iintro ⟨#HC, ⟨Hw, Hc⟩, HS⟩ Hk
  unfold resS
  icases HS with ⟨HL, HG, HO, Ho⟩
  iapply (wait_tri (m := m) (K := K) (KE := KE) c bStage bOther w w 1 k _
    (by rw [lv_dcell]; exact (above_pYZ 2 (by decide) c (k :: todo)).append hr) _ _) $$ [Hw Ho]
  · isplitr; · iexact HC
    isplitl [Hw] <;> iassumption
  iintro ⟨Hx, Hz, Ho⟩
  ihave Hx := (show pay m c 1 k ⊢ gotX m c k from BI.Entails.refl _) $$ Hx
  iapply (chunk_tri (m := m) (K := K) (KE := KE) c k T todo rest _ _) $$ [Hx Hc HL HG HO Ho]
  · isplitr; · iexact HC
    isplitl [Hx Hc]
    · isplitl [Hx]; · iexact Hx
      iexact Hc
    unfold resS
    isplitl [HL]; · iexact HL
    isplitl [HG]; · iexact HG
    isplitl [HO] <;> iassumption
  iintro ⟨⟨Hx, Hw⟩, HS⟩
  iapply Hk
  isplitl [Hz Hx Hw]
  · isplitl [Hz]; · iexact Hz
    isplitl [Hx] <;> iassumption
  unfold resS
  iexact HS

/-- Wait for a received chunk, forward it to `n`, and write it to the result. -/
theorem fwd_tri (c n src : Dev nD) (b bs : Slots) (hb : b.IsWhole) (a k : Fin 8) (s : Fin 4) (hs : qdev c s = src)
    (off : Fin 2 → Nat) (hoff : ∀ a, off a + S32x1024.size a ≤ S1024x1024.size a) (h : off = ![256 * s.val + 32 * k.val, 0])
    (hp : pay m c a k ⊢ slotPt b c k fullShare (outV m src k)) (h6 : slotPt b c k fullShare.left (outV m src k) ⊢ pay m c 6 k)
    (h7 : slotPt bDiag n k fullShare (outV m src k) ⊢ pay m n 7 k) (hbs : bs.IsWhole)
    (T : List (Fin 4 × Fin 8)) (l : List Pmt) (hl : Above (lvOf a) ((dcell n 7 k, N) :: l)) :
    Tri m K KE c
      iprop((waitable c a k ∗ slotAny bDiag n k ∗ at0 c 6 k ∗ tk c 6 k ∗ tk n 7 k) ∗ outS m c T ((dcell n 7 k, N) :: l))
      iprop((sv c a k ∗ slotPt b c k fullShare.right (outV m src k) ∗ waitable c 6 k) ∗ outS m c ((s, k) :: T) l)
      ((waitF bs b hbs hb a k).bind fun _ => (sendF b bDiag hb w n 6 7 k).bind fun _ => putF b off hoff k) := by
  intro p R
  rw [bind2, bind2]
  unfold outS
  iintro ⟨#HC, ⟨Hw, Hd, Ha, T6, T7⟩, HO, Ho⟩ Hk
  iapply (wait_tri (m := m) (K := K) (KE := KE) c bs b hbs hb a k _ (by rw [lv_dcell]; exact hl) _ _) $$ [Hw Ho]
  · isplitr; · iexact HC
    isplitl [Hw] <;> iassumption
  iintro ⟨Hx, Hz, Ho⟩
  ihave Hx := (hp.trans (slot_halves b c k (outV m src k))) $$ Hx
  icases Hx with ⟨Hx1, Hx2⟩
  iapply (send_tri (m := m) (K := K) (KE := KE) c n b bDiag hb w 6 7 k fullShare.left (outV m src k) l h6 h7 _ _) $$ [Hx1 Hd Ho Ha T6 T7]
  · isplitr; · iexact HC
    isplitl [Hx1]; · iexact Hx1
    isplitl [Hd]; · iexact Hd
    isplitl [Ho]; · iexact Ho
    isplitl [Ha]; · iexact Ha
    isplitl [T6] <;> iassumption
  iintro ⟨Hw6, Ho⟩
  iapply (put_tri (m := m) (K := K) (KE := KE) c b fullShare.right s k T off hoff h src hs _ _) $$ [Hx2 HO]
  · isplitr; · iexact HC
    isplitl [Hx2] <;> iassumption
  iintro ⟨Hx2, HO⟩
  iapply Hk
  isplitl [Hz Hx2 Hw6]
  · isplitl [Hz]; · iexact Hz
    isplitl [Hx2] <;> iassumption
  isplitl [HO] <;> iassumption

/-- Wait for a received chunk and write it to the result. -/
theorem rec_tri (c src : Dev nD) (b bs : Slots) (hb : b.IsWhole) (a k : Fin 8) (s : Fin 4) (hs : qdev c s = src)
    (off : Fin 2 → Nat) (hoff : ∀ a, off a + S32x1024.size a ≤ S1024x1024.size a) (h : off = ![256 * s.val + 32 * k.val, 0])
    (hp : pay m c a k ⊢ slotPt b c k fullShare (outV m src k)) (hbs : bs.IsWhole) (T : List (Fin 4 × Fin 8)) :
    Tri m K KE c iprop(waitable c a k ∗ outS m c T [])
      iprop((sv c a k ∗ slotPt b c k fullShare (outV m src k)) ∗ outS m c ((s, k) :: T) [])
      ((waitF bs b hbs hb a k).bind fun _ => putF b off hoff k) := by
  intro p R
  rw [bind2]
  unfold outS
  iintro ⟨#HC, Hw, HO, Ho⟩ Hk
  iapply (wait_tri (m := m) (K := K) (KE := KE) c bs b hbs hb a k _ (Above.nil _) _ _) $$ [Hw Ho]
  · isplitr; · iexact HC
    isplitl [Hw] <;> iassumption
  iintro ⟨Hx, Hz, Ho⟩
  ihave Hx := hp $$ Hx
  iapply (put_tri (m := m) (K := K) (KE := KE) c b fullShare s k T off hoff h src hs _ _) $$ [Hx HO]
  · isplitr; · iexact HC
    isplitl [Hx] <;> iassumption
  iintro ⟨Hx, HO⟩
  iapply Hk
  isplitl [Hz Hx]
  · isplitl [Hz] <;> iassumption
  isplitl [HO] <;> iassumption

theorem fwdz_tri (c : Dev nD) (k : Fin 8) (hk : k.val < 4) (T : List (Fin 4 × Fin 8)) (todo : List (Fin 8)) (rest : List Pmt) (hr : Above 3 rest) :
    Tri m K KE c
      iprop((waitable c 5 k ∗ slotAny bDiag (yn c) k ∗ at0 c 6 k ∗ tk c 6 k ∗ tk (yn c) 7 k) ∗ outS m c T (pFz c (k :: todo) ++ rest))
      iprop((sv c 5 k ∗ slotPt bZin c k fullShare.right (outV m (zn c) k) ∗ waitable c 6 k) ∗ outS m c ((qr (zn c), k) :: T) (pFz c todo ++ rest))
      (fwdzF c k) :=
  fwd_tri c (yn c) (zn c) bZin bOut w 5 k (qr (zn c)) (qdev_zn c) _ (k0_off5_inb c k) (off5_rows c k) (BI.Entails.refl _)
    (by unfold pay payBuf payVal; rw [if_pos hk, if_pos hk]; exact BI.Entails.refl _)
    (by unfold pay payVal; rw [dn_yn]; exact BI.Entails.refl _) w T (pFz c todo ++ rest)
    ((above_pFz 3 (by decide) c (k :: todo)).append hr)

theorem fwdy_tri (c : Dev nD) (k : Fin 8) (hk : ¬ k.val < 4) (T : List (Fin 4 × Fin 8)) (todo : List (Fin 8)) :
    Tri m K KE c
      iprop((waitable c 3 k ∗ slotAny bDiag (zn c) k ∗ at0 c 6 k ∗ tk c 6 k ∗ tk (zn c) 7 k) ∗ outS m c T (pFy c (k :: todo)))
      iprop((sv c 3 k ∗ slotPt bYin c k fullShare.right (outV m (yn c) k) ∗ waitable c 6 k) ∗ outS m c ((qr (yn c), k) :: T) (pFy c todo))
      (fwdyF c k) :=
  fwd_tri c (zn c) (yn c) bYin bOut w 3 k (qr (yn c)) (qdev_yn c) _ (k0_off6_inb c k) (off6_rows c k) (BI.Entails.refl _)
    (by unfold pay payBuf payVal; rw [if_neg hk, if_neg hk]; exact BI.Entails.refl _)
    (by unfold pay payVal; rw [dn_zn]; exact BI.Entails.refl _) w T (pFy c todo)
    (above_pFy 3 (by decide) c (k :: todo))

theorem recy_tri (c : Dev nD) (k : Fin 8) (T : List (Fin 4 × Fin 8)) :
    Tri m K KE c iprop(waitable c 3 k ∗ outS m c T [])
      iprop((sv c 3 k ∗ slotPt bYin c k fullShare (outV m (yn c) k)) ∗ outS m c ((qr (yn c), k) :: T) []) (recyF c k) :=
  rec_tri c (yn c) bYin bOut w 3 k (qr (yn c)) (qdev_yn c) _ (k0_off6_inb c k) (off6_rows c k) (BI.Entails.refl _) w T

theorem recz_tri (c : Dev nD) (k : Fin 8) (T : List (Fin 4 × Fin 8)) :
    Tri m K KE c iprop(waitable c 5 k ∗ outS m c T [])
      iprop((sv c 5 k ∗ slotPt bZin c k fullShare (outV m (zn c) k)) ∗ outS m c ((qr (zn c), k) :: T) []) (reczF c k) :=
  rec_tri c (zn c) bZin bOut w 5 k (qr (zn c)) (qdev_zn c) _ (k0_off5_inb c k) (off5_rows c k) (BI.Entails.refl _) w T

theorem recd_tri (c : Dev nD) (k : Fin 8) (T : List (Fin 4 × Fin 8)) :
    Tri m K KE c iprop(waitable c 7 k ∗ outS m c T [])
      iprop((sv c 7 k ∗ slotPt bDiag c k fullShare (outV m (dn c) k)) ∗ outS m c ((qr (dn c), k) :: T) []) (recdF c k) :=
  rec_tri c (dn c) bDiag bDiag w 7 k (qr (dn c)) (qdev_dn c) _ (k0_off7_inb c k) (off7_rows c k) (BI.Entails.refl _) w T

/-- The waits for the copies the device started for chunk `k`. -/
theorem done_tri (c : Dev nD) (k : Fin 8) :
    Tri m K KE c iprop((waitable c 0 k ∗ waitable c 2 k ∗ waitable c 4 k) ∗ owing c [])
      iprop(((pay m c 0 k ∗ sv c 0 k) ∗ (pay m c 2 k ∗ sv c 2 k) ∗ (pay m c 4 k ∗ sv c 4 k)) ∗ owing c []) (doneF k) := by
  intro p R
  show _ ⊢ iprop((_ -∗ wpc c p R) -∗ wpc c (((waitF bOther bStage w w 0 k).bind fun _ =>
    (waitF bYin bOut w w 2 k).bind fun _ => waitF bZin bOut w w 4 k).bind fun _ => p) R)
  rw [bind2, bind2]
  iintro ⟨#HC, ⟨Hw0, Hw2, Hw4⟩, Ho⟩ Hk
  iapply (wait_tri (m := m) (K := K) (KE := KE) c _ _ w w 0 k _ (Above.nil _) _ _) $$ [Hw0 Ho]
  · isplitr; · iexact HC
    isplitl [Hw0] <;> iassumption
  iintro ⟨Hp0, Hz0, Ho⟩
  iapply (wait_tri (m := m) (K := K) (KE := KE) c _ _ w w 2 k _ (Above.nil _) _ _) $$ [Hw2 Ho]
  · isplitr; · iexact HC
    isplitl [Hw2] <;> iassumption
  iintro ⟨Hp2, Hz2, Ho⟩
  iapply (wait_tri (m := m) (K := K) (KE := KE) c _ _ w w 4 k _ (Above.nil _) _ _) $$ [Hw4 Ho]
  · isplitr; · iexact HC
    isplitl [Hw4] <;> iassumption
  iintro ⟨Hp4, Hz4, Ho⟩
  iapply Hk
  isplitr [Ho]
  · isplitl [Hp0 Hz0]
    · isplitl [Hp0] <;> iassumption
    isplitl [Hp2 Hz2]
    · isplitl [Hp2] <;> iassumption
    isplitl [Hp4] <;> iassumption
  iexact Ho

/-- The wait for a forwarding copy. -/
theorem fin_tri (c : Dev nD) (bs bd : Slots) (hs : bs.IsWhole) (hd : bd.IsWhole) (k : Fin 8) :
    Tri m K KE c iprop(waitable c 6 k ∗ owing c []) iprop((pay m c 6 k ∗ sv c 6 k) ∗ owing c []) (waitF bs bd hs hd 6 k) := by
  refine (wait_tri c bs bd hs hd 6 k [] (Above.nil _)).conseq (BI.Entails.refl _) ?_
  iintro ⟨Hp, Hz, Ho⟩
  isplitl [Hp Hz]
  · isplitl [Hp] <;> iassumption
  iexact Ho

end Cert.KernelIdeal.Ar
end
-- ==== Proof.Handshake.lean ====
/- The entry handshake: the signals to the three neighbours and the two waits on the own barrier semaphore. -/
module

public import proofs.«01_k».proof.Proof.Steps

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : Mem0 F) (K : Dev nD × Key → ℕ) (KE : Dev nD → ℕ)

omit [FloatOps F] in
/-- One member of a family apart from the others. -/
theorem bs_erase {I : Type} [DecidableEq I] {s : Finset I} {i : I} (hi : i ∈ s) (Φ : I → sProp 𝕄) :
    bigSep s Φ = iprop(Φ i ∗ bigSep (s.erase i) Φ) := bigSep_erase hi
omit [FloatOps F] in
/-- A part of a family apart from the rest. -/
theorem bs_sdiff {I : Type} [DecidableEq I] {s t : Finset I} (h : t ⊆ s) (Φ : I → sProp 𝕄) :
    bigSep s Φ = iprop(bigSep t Φ ∗ bigSep (s \ t) Φ) := bigSep_sdiff_split h

/-! ## The common store -/

/-- The peer leaves its receive buffer in the store and takes the four rights. -/
theorem deposit (c : Dev nD) :
    iprop(Ctx m K KE ∗ dutyTok ER (esc c) 0 4 ∗ bigSep Finset.univ (fun k => slotAny bOther (xn c) k))
      ⊢ iprop(|={Set.univ}=> (dutyTok ER (esc c) 0 0 ∗ dutyTok ER (esc c) 0 1 ∗ dutyTok ER (esc c) 0 2 ∗ dutyTok ER (esc c) 0 3)) := by
  iintro ⟨#HC, Ha, HR⟩
  ihave #Hi := (Ctx_escrow m K KE c) $$ HC
  imod (inv_acc (Set.mem_univ (KE c))) $$ Hi with ⟨Hb, Hclose⟩
  unfold escrow
  icases Hb with (Hbs | ⟨Ha', -⟩ | ⟨-, Ha'⟩)
  rotate_left
  · iexfalso; iapply (dutyTok_dutyTok_false ER); isplitl [Ha]; · iexact Ha
    iexact Ha'
  · iexfalso; iapply (dutyTok_dutyTok_false ER); isplitl [Ha]; · iexact Ha
    iexact Ha'
  ihave Hc := Hclose $$ [Ha HR]
  · iright; ileft
    isplitl [Ha] <;> iassumption
  imod Hc
  imodintro
  iexact Hbs

/-- The store holding the four rights contradicts holding one of them. -/
theorem right_false (c : Dev nD) (i : Fin 6) (hi : i.val < 4) :
    iprop(dutyTok ER (esc c) 0 i ∗ dutyTok ER (esc c) 0 0 ∗ dutyTok ER (esc c) 0 1 ∗ dutyTok ER (esc c) 0 2 ∗ dutyTok ER (esc c) 0 3)
      ⊢ (False : sProp 𝕄) := by
  iintro ⟨H, H0, H1, H2, H3⟩
  have h : i = 0 ∨ i = 1 ∨ i = 2 ∨ i = 3 := by revert i; decide
  iapply (dutyTok_dutyTok_false ER (g := esc c) (r := 0) (d := i))
  isplitl [H]; · iexact H
  rcases h with rfl | rfl | rfl | rfl <;> iassumption

/-- Holding one of the four rights and its own token, a device takes its peer's receive buffer out of the store. -/
theorem withdraw (c : Dev nD) (i : Fin 6) (hi : i.val < 4) :
    iprop(Ctx m K KE ∗ dutyTok ER (esc c) 0 5 ∗ dutyTok ER (esc c) 0 i)
      ⊢ iprop(|={Set.univ}=> (dutyTok ER (esc c) 0 i ∗ bigSep Finset.univ (fun k => slotAny bOther (xn c) k))) := by
  iintro ⟨#HC, Ht, Hb⟩
  ihave #Hi := (Ctx_escrow m K KE c) $$ HC
  imod (inv_acc (Set.mem_univ (KE c))) $$ Hi with ⟨Hs, Hclose⟩
  unfold escrow
  icases Hs with (Hbs | ⟨Ha, HR⟩ | ⟨Ht', -⟩)
  · iexfalso; iapply (right_false c i hi); isplitl [Hb]; · iexact Hb
    iexact Hbs
  rotate_left
  · iexfalso; iapply (dutyTok_dutyTok_false ER); isplitl [Ht]; · iexact Ht
    iexact Ht'
  ihave Hc := Hclose $$ [Ha Ht]
  · iright; iright
    isplitl [Ht] <;> iassumption
  imod Hc
  imodintro
  isplitl [Hb] <;> iassumption

/-! ## The signals -/

/-- The four units of one signal land together, each with its right. -/
theorem land4 (c : Dev nD) {κ : ℕ} :
    iprop(cellInv ER (Rd m) κ (bar c) ∗ reached ER (bar c) 0
        ∗ (dutyTok ER (bar c) 0 0 ∗ dutyTok ER (bar c) 0 1 ∗ dutyTok ER (bar c) 0 2 ∗ dutyTok ER (bar c) 0 3)
        ∗ (dutyTok ER (esc c) 0 0 ∗ dutyTok ER (esc c) 0 1 ∗ dutyTok ER (esc c) 0 2 ∗ dutyTok ER (esc c) 0 3))
      ⊢ landingUpdate (bar c) 4 (iprop(emp) : sProp 𝕄) := by
  have hd : ∀ d : Fin 6, d ∈ (Rd m).duties (bar c) 0 := fun d => by rw [duties_bar]; exact Finset.mem_univ _
  have one : ∀ (d : Fin 6) (v : ℕ), d.val < 4 →
      iprop(roundState ER (Rd m) (bar c) v ∗ dutyTok ER (bar c) 0 d ∗ dutyTok ER (esc c) 0 d ∗ reached ER (bar c) 0)
        ⊢ iprop(|==> roundState ER (Rd m) (bar c) (v + 1)) := fun d v h => by
    have e : (Rd m).payload (bar c) 0 d = dutyTok ER (esc c) 0 d := by
      rw [payload_bar]; unfold barPay
      rw [if_neg (by rintro rfl; exact absurd h (by decide)), if_neg (by rintro rfl; exact absurd h (by decide))]
    have := roundState_land ER (Rd m) (v := v) (hd d)
    rw [e] at this
    exact this
  rw [landingUpdate_def]
  iintro ⟨#Hg, #Hr, Ht, He⟩ -
  iapply (raise_roundState ER (Rd m) (k := 4) (Y := iprop(emp))
    (X := iprop(reached ER (bar c) 0
        ∗ (dutyTok ER (bar c) 0 0 ∗ dutyTok ER (bar c) 0 1 ∗ dutyTok ER (bar c) 0 2 ∗ dutyTok ER (bar c) 0 3)
        ∗ (dutyTok ER (esc c) 0 0 ∗ dutyTok ER (esc c) 0 1 ∗ dutyTok ER (esc c) 0 2 ∗ dutyTok ER (esc c) 0 3)))
    (by iintro ⟨Hcl, Hr, ⟨Ht, -⟩, -⟩; iapply (closed_dutyTok_false ER (Rd m) (hd 0))
        isplitl [Hcl]; · iexact Hcl
        isplitl [Ht] <;> iassumption)
    (by iintro ⟨Hdm, Hr, -⟩; iapply (dormant_reached_false ER (Rd m)); isplitl [Hdm] <;> iassumption)
    (fun v => by
      iintro ⟨Hst, #Hr, ⟨T0, T1, T2, T3⟩, ⟨E0, E1, E2, E3⟩⟩
      imod (one 0 v (by decide)) $$ [Hst T0 E0] with Hst
      · isplitl [Hst]; · iexact Hst
        isplitl [T0]; · iexact T0
        isplitl [E0]; · iexact E0
        iexact Hr
      imod (one 1 (v + 1) (by decide)) $$ [Hst T1 E1] with Hst
      · isplitl [Hst]; · iexact Hst
        isplitl [T1]; · iexact T1
        isplitl [E1]; · iexact E1
        iexact Hr
      imod (one 2 (v + 1 + 1) (by decide)) $$ [Hst T2 E2] with Hst
      · isplitl [Hst]; · iexact Hst
        isplitl [T2]; · iexact T2
        isplitl [E2]; · iexact E2
        iexact Hr
      imod (one 3 (v + 1 + 1 + 1) (by decide)) $$ [Hst T3 E3] with Hst
      · isplitl [Hst]; · iexact Hst
        isplitl [T3]; · iexact T3
        isplitl [E3]; · iexact E3
        iexact Hr
      imodintro
      isplitl [Hst]; · iexact Hst
      iempintro))
  isplitr; · iexact Hg
  isplitr; · iexact Hr
  isplitl [Ht] <;> iassumption

variable {m K KE}

/-- The signal along the first axis: it leaves the own receive buffer to the peer. -/
theorem sigX_tri (c : Dev nD) (l : List Pmt) :
    Tri m K KE c
      iprop((dutyTok ER (bar (xn c)) 0 0 ∗ dutyTok ER (bar (xn c)) 0 1 ∗ dutyTok ER (bar (xn c)) 0 2 ∗ dutyTok ER (bar (xn c)) 0 3)
        ∗ dutyTok ER (esc (xn c)) 0 4 ∗ bigSep Finset.univ (fun k => slotAny bOther c k) ∗ owing c ((bar (xn c), 4) :: l))
      iprop(owing c l) (semSignalWord (xn c) barrier0 4#32) := by
  intro p R
  show _ ⊢ iprop((_ -∗ wpc c p R) -∗ wpc c (.op (.semSignal ((xn c : Dev nD) : Thread nD τ) barrier0 ((4 : ℕ) : ℤ)) fun _ => p) R)
  unfold owing
  iintro ⟨#HC, Ht, Ha, HR, ⟨%W, Ho⟩⟩ Hk
  ihave #Hi := (Ctx_cell m K KE (xn c, none)) $$ HC
  ihave #Hr := (Ctx_reached m K KE (xn c, none)) $$ HC
  imod (deposit m K KE (xn c)) $$ [Ha HR] with He
  · isplitr; · iexact HC
    isplitl [Ha]; · iexact Ha
    rw [xn_xn]; iexact HR
  iapply (wp_semSignal 𝒱₀ (c : Thread nD τ) none Set.univ (dst := ((xn c : Dev nD) : Thread nD τ)) (sem := barrier0)
    (k' := 4) () (O₀ := tally ((bar (xn c), 4) :: l)) (tally l) rfl (W := W)) $$ Ho [Ht He]
  · iapply (land4 m (xn c))
    isplitr; · iexact Hi
    isplitr; · iexact Hr
    isplitl [Ht] <;> iassumption
  iintro Ho
  iapply Hk
  iexists W; iexact Ho

/-- A signal of one unit. -/
theorem sig_tri (c n : Dev nD) (d : Fin 6) (l : List Pmt) :
    Tri m K KE c iprop(dutyTok ER (bar n) 0 d ∗ barPay n d ∗ owing c ((bar n, 1) :: l))
      iprop(owing c l) (semSignalWord n barrier0 1#32) := by
  intro p R
  show _ ⊢ iprop((_ -∗ wpc c p R) -∗ wpc c (.op (.semSignal (n : Thread nD τ) barrier0 ((1 : ℕ) : ℤ)) fun _ => p) R)
  unfold owing
  iintro ⟨#HC, Ht, Hp, ⟨%W, Ho⟩⟩ Hk
  ihave #Hi := (Ctx_cell m K KE (n, none)) $$ HC
  ihave #Hr := (Ctx_reached m K KE (n, none)) $$ HC
  iapply (Rounds.wp_signal 𝒱₀ ER (Rd m) (c : Thread nD τ) none (dst := (n : Thread nD τ)) (κ := K (n, none))
      (r := 0) (d := d) (by rw [duties_bar]; exact Finset.mem_univ _) (amount_bar m n d) () (tally l) rfl (W := W)) $$ [Ht Hp Ho]
  · isplitr; · iexact Hi
    isplitl [Ho]; · iexact Ho
    isplitl [Ht]; · iexact Ht
    isplitl [Hp]; · iapply (Entails.of_eq (payload_bar m n d).symm); iexact Hp
    iexact Hr
  iintro Ho
  iapply Hk
  iexists W; iexact Ho

/-! ## The waits -/

/-- Between the two waits: four units consumed, and what the signals arrived so far handed over. -/
def midBar (c : Dev nD) : sProp 𝕄 :=
  iprop(∃ S : Finset (Fin 6), atPos ER (bar c) 0 S 4 ∗ bigSep S (fun d => barPay c d))

/-- The first wait, for four units: the peer along the first axis has signalled, and its receive buffer is had. -/
theorem wait4_tri (c : Dev nD) (l : List Pmt) (hl : Above 1 l) :
    Tri m K KE c
      iprop(cred (tallyAt (bar c) () 4) ∗ atPos ER (bar c) 0 ∅ 0 ∗ dutyTok ER (esc c) 0 5 ∗ owing c l)
      iprop(midBar c ∗ bigSep Finset.univ (fun k => slotAny bOther (xn c) k) ∗ owing c l) (semWaitWord barrier0 4#32) := by
  intro p R
  show _ ⊢ iprop((_ -∗ wpc c p R) -∗ wpc c (.op (.semWait barrier0 ((4 : ℕ) : ℤ)) fun _ => p) R)
  unfold owing
  iintro ⟨#HC, Hc, Hat, Ht, ⟨%W, Ho⟩⟩ Hk
  ihave #Hi := (Ctx_cell m K KE (c, none)) $$ HC
  ihave #Hlev := (Ctx_lev m K KE) $$ HC
  iapply (Rounds.wp_wait 𝒱₀ ER (Rd m) (c : Thread nD τ) none (κ := K (c, none)) (sm := .reg barrier0)
      (wpE_semWait_eq 𝒱₀ (c : Thread nD τ) none Set.univ) (Set.mem_univ _) (cr := Finsupp.single () 4) {(.reg barrier0, ())} (O := tally l) (W := W) (R := 0) (m := 0) (T := ∅)
      (by rw [Util.total_single]) (image_single_subset _ _ _)) $$ [Hc Ho Hat]
  · isplitr; · iexact Hi
    isplitl [Hc]; · iexact Hc
    isplitl [Ho]; · iexact Ho
    isplitr; · iapply (mayWait c (.reg barrier0) 1 le_rfl l hl); iexact Hlev
    iexact Hat
  iintro %S ⟨%hS, Ho, Hat, Hp⟩
  obtain ⟨-, -, hS⟩ := hS
  rw [duties_bar, expect_bar] at hS
  have hi : ∃ i ∈ S, (i : Fin 6).val < 4 := by
    revert hS; revert S; decide
  obtain ⟨i, hiS, hi⟩ := hi
  rw [Finset.sdiff_empty]
  ihave Hp := (Entails.of_eq (bs_erase hiS (fun d => (Rd m).payload (bar c) 0 d))) $$ Hp
  icases Hp with ⟨Hb, Hp⟩
  have e : (Rd m).payload (bar c) 0 i = dutyTok ER (esc c) 0 i := by
    rw [payload_bar]; unfold barPay
    rw [if_neg (by rintro rfl; exact absurd hi (by decide)), if_neg (by rintro rfl; exact absurd hi (by decide))]
  ihave Hb := (Entails.of_eq e) $$ Hb
  imod (withdraw m K KE c i hi) $$ [Ht Hb] with ⟨Hb, HR⟩
  · isplitr; · iexact HC
    isplitl [Ht] <;> iassumption
  ihave Hb := (Entails.of_eq e.symm) $$ Hb
  iapply Hk
  isplitl [Hat Hb Hp]
  · unfold midBar
    iexists S
    isplitl [Hat]; · iexact Hat
    iapply (Entails.of_eq (bs_erase hiS (fun d => (Rd m).payload (bar c) 0 d)).symm)
    isplitl [Hb]; · iexact Hb
    iexact Hp
  isplitl [HR]; · iexact HR
  iexists _; iexact Ho

/-- The second wait, for two units: the other two neighbours have signalled too, and their buffers are had. -/
theorem wait2_tri (c : Dev nD) (l : List Pmt) (hl : Above 1 l) :
    Tri m K KE c
      iprop(cred (tallyAt (bar c) () 2) ∗ midBar c ∗ owing c l)
      iprop(barPay c 4 ∗ barPay c 5 ∗ semVal (bar c) 0 ∗ owing c l) (semWaitWord barrier0 2#32) := by
  intro p R
  show _ ⊢ iprop((_ -∗ wpc c p R) -∗ wpc c (.op (.semWait barrier0 ((2 : ℕ) : ℤ)) fun _ => p) R)
  unfold owing midBar
  iintro ⟨#HC, Hc, ⟨%S, Hat, Hp⟩, ⟨%W, Ho⟩⟩ Hk
  ihave #Hi := (Ctx_cell m K KE (c, none)) $$ HC
  ihave #Hlev := (Ctx_lev m K KE) $$ HC
  iapply (Rounds.wp_wait_rest_token 𝒱₀ ER (Rd m) (c : Thread nD τ) none (κ := K (c, none)) (sm := .reg barrier0)
      (wpE_semWait_eq 𝒱₀ (c : Thread nD τ) none Set.univ) (Set.mem_univ _) () (O := tally l) (W := W) (R := 0) (m := 4) (T := S)
      (by rw [expect_bar])) $$ [Hc Ho Hat]
  · isplitr; · iexact Hi
    isplitl [Hc]; · iexact Hc
    isplitl [Ho]; · iexact Ho
    isplitr; · iapply (mayWait c (.reg barrier0) 1 le_rfl l hl); iexact Hlev
    iexact Hat
  iintro ⟨Ho, Hat, -, Hp'⟩
  imod (Rounds.cell_close ER (Rd m) (Set.mem_univ (K (c, none))) (fun h => h) (R := 0 + 1) (duties_later m (bar c))) $$ [Hat] with Hz
  · isplitr; · iexact Hi
    iexact Hat
  rw [duties_bar]
  ihave Hall := (Entails.of_eq (bs_sdiff (Finset.subset_univ S) (fun d => barPay (F := F) c d)).symm) $$ [Hp Hp']
  · isplitl [Hp]; · iexact Hp
    iexact Hp'
  ihave H := (Entails.of_eq (bs_erase (Finset.mem_univ (4 : Fin 6)) (fun d => barPay (F := F) c d))) $$ Hall
  icases H with ⟨H4, H⟩
  ihave H := (Entails.of_eq (bs_erase (show (5 : Fin 6) ∈ Finset.univ.erase 4 by decide) (fun d => barPay (F := F) c d))) $$ H
  icases H with ⟨H5, -⟩
  iapply Hk
  isplitl [H4]; · iexact H4
  isplitl [H5]; · iexact H5
  isplitl [Hz]; · iexact Hz
  iexists _; iexact Ho

end Cert.KernelIdeal.Ar
end
-- ==== Proof.Phases.lean ====
/- The body in four phases: the handshake with the staging, the chunks of the own quarter, the forwarding, and the
   receipts with the final waits. -/
module

public import proofs.«01_k».proof.Proof.Chunks
public import proofs.«01_k».proof.Proof.Handshake

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : Mem0 F) (K : Dev nD × Key → ℕ) (KE : Dev nD → ℕ)

/-! ## Families along a list -/

theorem eq_of_both {P Q : sProp 𝕄} (h : P ⊢ Q) (h' : Q ⊢ P) : P = Q := BI.Entails.antisymm h h'

theorem ch_sep (ks : List (Fin 8)) (A B : Fin 8 → sProp 𝕄) : ch ks (fun k => iprop(A k ∗ B k)) = iprop(ch ks A ∗ ch ks B) := by
  induction ks with
  | nil =>
    apply eq_of_both
    · show (iprop(emp) : sProp 𝕄) ⊢ iprop(emp ∗ emp)
      iintro -; isplitr <;> iempintro
    · show (iprop(emp ∗ emp) : sProp 𝕄) ⊢ iprop(emp)
      iintro -; iempintro
  | cons k ks ih =>
    rw [ch_cons, ch_cons, ch_cons, ih]
    apply eq_of_both
    · show iprop((A k ∗ B k) ∗ ch ks A ∗ ch ks B) ⊢ iprop((A k ∗ ch ks A) ∗ B k ∗ ch ks B)
      iintro ⟨⟨H1, H2⟩, H3, H4⟩
      isplitl [H1 H3]
      · isplitl [H1] <;> iassumption
      isplitl [H2] <;> iassumption
    · show iprop((A k ∗ ch ks A) ∗ B k ∗ ch ks B) ⊢ iprop((A k ∗ B k) ∗ ch ks A ∗ ch ks B)
      iintro ⟨⟨H1, H3⟩, H2, H4⟩
      isplitl [H1 H2]
      · isplitl [H1] <;> iassumption
      isplitl [H3] <;> iassumption

theorem ch_append (ks ks' : List (Fin 8)) (A : Fin 8 → sProp 𝕄) : ch (ks ++ ks') A = iprop(ch ks A ∗ ch ks' A) := by
  induction ks with
  | nil =>
    apply eq_of_both
    · show ch ks' A ⊢ iprop(emp ∗ ch ks' A)
      iintro H; isplitr; · iempintro
      iexact H
    · show iprop(emp ∗ ch ks' A) ⊢ ch ks' A
      iintro ⟨-, H⟩; iexact H
  | cons k ks ih =>
    rw [List.cons_append, ch_cons, ch_cons, ih]
    apply eq_of_both
    · show iprop(A k ∗ ch ks A ∗ ch ks' A) ⊢ iprop((A k ∗ ch ks A) ∗ ch ks' A)
      iintro ⟨H1, H2, H3⟩
      isplitl [H1 H2]
      · isplitl [H1] <;> iassumption
      iexact H3
    · show iprop((A k ∗ ch ks A) ∗ ch ks' A) ⊢ iprop(A k ∗ ch ks A ∗ ch ks' A)
      iintro ⟨⟨H1, H2⟩, H3⟩
      isplitl [H1]; · iexact H1
      isplitl [H2] <;> iassumption

theorem ch_halves (A : Fin 8 → sProp 𝕄) : ch all8 A = iprop(ch lo4 A ∗ ch hi4 A) := ch_append lo4 hi4 A

theorem ch_mono (ks : List (Fin 8)) (A B : Fin 8 → sProp 𝕄) (h : ∀ k ∈ ks, A k ⊢ B k) : ch ks A ⊢ ch ks B := by
  induction ks with
  | nil => exact BI.Entails.refl _
  | cons k ks ih =>
    rw [ch_cons, ch_cons]
    iintro ⟨H1, H2⟩
    isplitl [H1]
    · iapply (h k List.mem_cons_self); iexact H1
    · iapply (ih fun k' hk' => h k' (List.mem_cons_of_mem _ hk')); iexact H2

theorem ch_finset (ks : List (Fin 8)) (h : ks.Nodup) (A : Fin 8 → sProp 𝕄) : bigSep ks.toFinset A = ch ks A := by
  induction ks with
  | nil => rw [List.toFinset_nil, bigSep_empty]; rfl
  | cons k ks ih =>
    rw [List.toFinset_cons, ch_cons, ← ih (List.nodup_cons.mp h).2]
    exact bigSep_insert (by rw [List.mem_toFinset]; exact (List.nodup_cons.mp h).1)

theorem ch_univ (A : Fin 8 → sProp 𝕄) : bigSep Finset.univ A = ch all8 A :=
  (congrArg (fun s => bigSep s A) (by decide)).trans (ch_finset all8 (by decide) A)
theorem ch_lo (A : Fin 8 → sProp 𝕄) : bigSep (Finset.univ.filter fun k : Fin 8 => k.val < 4) A = ch lo4 A :=
  (congrArg (fun s => bigSep s A) (by decide)).trans (ch_finset lo4 (by decide) A)
theorem ch_hi (A : Fin 8 → sProp 𝕄) : bigSep (Finset.univ.filter fun k : Fin 8 => ¬ k.val < 4) A = ch hi4 A :=
  (congrArg (fun s => bigSep s A) (by decide)).trans (ch_finset hi4 (by decide) A)

/-- The buffers that the signal along the second axis hands over. -/
theorem barPay4 (c : Dev nD) : barPay (F := F) c 4 = iprop(ch all8 (fun k => slotAny bYin (yn c) k) ∗ ch lo4 (fun k => slotAny bDiag (yn c) k)) := by
  unfold barPay; rw [if_pos rfl, ch_univ, ch_lo]
/-- The buffers that the signal along the third axis hands over. -/
theorem barPay5 (c : Dev nD) : barPay (F := F) c 5 = iprop(ch all8 (fun k => slotAny bZin (zn c) k) ∗ ch hi4 (fun k => slotAny bDiag (zn c) k)) := by
  unfold barPay; rw [if_neg (by decide), if_pos rfl, ch_univ, ch_hi]

variable {m K KE}

/-! ## First phase: the handshake, the staging and the copies along the first axis -/

/-- The rights to the six signals, and the two for the common stores. -/
def sigToks (c : Dev nD) : sProp 𝕄 :=
  iprop((dutyTok ER (bar (xn c)) 0 0 ∗ dutyTok ER (bar (xn c)) 0 1 ∗ dutyTok ER (bar (xn c)) 0 2 ∗ dutyTok ER (bar (xn c)) 0 3)
    ∗ dutyTok ER (bar (yn c)) 0 4 ∗ dutyTok ER (bar (zn c)) 0 5 ∗ dutyTok ER (esc (xn c)) 0 4 ∗ dutyTok ER (esc c) 0 5)

/-- What is owed after the copies along the first axis. -/
abbrev pAfter (c : Dev nD) : List Pmt := pYZ c all8 ++ (pFz c lo4 ++ pFy c hi4)

theorem above_after (n : ℕ) (hn : n < 3) (c : Dev nD) : Above n (pAfter c) :=
  (above_pYZ n hn c all8).append ((above_pFz n (by omega) c lo4).append (above_pFy n (by omega) c hi4))

/-- The first phase, up to the wait for four units. -/
theorem phase1 (c : Dev nD) (f₀ : (cc0_scratch6 : Ref sig .tc).ty.Contents (Elt F)) (rest : KProg F) (R : PUnit → sProp 𝕄) :
    iprop(Ctx m K KE ∗ sigToks c ∗ cred (tallyAt (bar c) () 4) ∗ atPos ER (bar c) 0 ∅ 0
        ∗ (ch all8 (fun k => slotAny bStage c k) ∗ ch all8 (fun k => slotAny bOther c k) ∗ ch all8 (fun k => slotAny bYin c k)
          ∗ ch all8 (fun k => slotAny bZin c k) ∗ ch all8 (fun k => slotAny bDiag c k))
        ∗ pt c cc0_scratch6 f₀ ∗ hP m c ∗ hR m c ∗ owing c (pmts c))
      ⊢ iprop(((midBar c ∗ ch all8 (fun k => slotAny bOther (xn c) k) ∗ ch all8 (fun k => slotPt bStage c k fullShare (stV m c k))
            ∗ hL m c ∗ hP m c ∗ hR m c ∗ owing c (pmtsX c)) -∗ wpc c rest R)
        -∗ wpc c ((semSignalWord (xn c) barrier0 4#32).bind fun _ =>
  (semSignalWord (yn c) barrier0 1#32).bind fun _ =>
  (semSignalWord (zn c) barrier0 1#32).bind fun _ =>
  loopF (stageF c) [0, 1, 2, 3, 4, 5, 6, 7] <|
  (locF c).bind fun _ =>
  (semWaitWord barrier0 4#32).bind fun _ => rest) R) := by
  unfold sigToks
  iintro ⟨#HC, ⟨TX, TY, TZ, E4, E5⟩, Hc, Hat, ⟨BS, BO, BY, BZ, BD⟩, HL, HP, HR, Ho⟩ Hk
  iapply (sigX_tri (m := m) (K := K) (KE := KE) c ((bar (yn c), 1) :: (bar (zn c), 1) :: pmtsX c) _ _) $$ [TX E4 BO Ho]
  · isplitr; · iexact HC
    isplitl [TX]; · iexact TX
    isplitl [E4]; · iexact E4
    isplitl [BO]; · rw [ch_univ]; iexact BO
    iexact Ho
  iintro Ho
  ihave BD := (Entails.of_eq (ch_halves (fun k => slotAny (F := F) bDiag c k))) $$ BD
  icases BD with ⟨BD0, BD1⟩
  iapply (sig_tri (m := m) (K := K) (KE := KE) c (yn c) 4 ((bar (zn c), 1) :: pmtsX c) _ _) $$ [TY BY BD0 Ho]
  · isplitr; · iexact HC
    isplitl [TY]; · iexact TY
    isplitl [BY BD0]
    · rw [barPay4, yn_yn]
      isplitl [BY] <;> iassumption
    iexact Ho
  iintro Ho
  iapply (sig_tri (m := m) (K := K) (KE := KE) c (zn c) 5 (pmtsX c) _ _) $$ [TZ BZ BD1 Ho]
  · isplitr; · iexact HC
    isplitl [TZ]; · iexact TZ
    isplitl [BZ BD1]
    · rw [barPay5, zn_zn]
      isplitl [BZ] <;> iassumption
    iexact Ho
  iintro Ho
  iapply (loop_rule (m := m) (K := K) (KE := KE) (c := c) (f := stageF c) (A := fun k => slotAny bStage c k)
    (B := fun k => slotPt bStage c k fullShare (stV m c k)) (S := fun _ _ => hP m c) all8
    (fun k _ _ _ => stage_tri c k) [] _ R) $$ [BS HP]
  · isplitr; · iexact HC
    isplitl [BS] <;> iassumption
  iintro ⟨BS, HP⟩
  iapply (loc_tri (m := m) (K := K) (KE := KE) c f₀ _ _) $$ [HL HP HR]
  · isplitr; · iexact HC
    isplitl [HL]; · iexact HL
    isplitl [HP] <;> iassumption
  iintro ⟨HL, HP, HR⟩
  iapply (wait4_tri (m := m) (K := K) (KE := KE) c (pmtsX c) ((above_pX 1 (by decide) c all8).append (above_after 1 (by decide) c)) _ _) $$ [Hc Hat E5 Ho]
  · isplitr; · iexact HC
    isplitl [Hc]; · iexact Hc
    isplitl [Hat]; · iexact Hat
    isplitl [E5] <;> iassumption
  iintro ⟨Hm, BO, Ho⟩
  iapply Hk
  isplitl [Hm]; · iexact Hm
  isplitl [BO]; · rw [← ch_univ]; iexact BO
  isplitl [BS]; · iexact BS
  isplitl [HL]; · iexact HL
  isplitl [HP]; · iexact HP
  isplitl [HR] <;> iassumption

/-! ## Second phase: the copies along the first axis and the own quarter -/

/-- The second phase, up to the last chunk of the own quarter. -/
theorem phase2 (c : Dev nD) (rest : KProg F) (R : PUnit → sProp 𝕄) :
    iprop(Ctx m K KE
        ∗ (ch all8 (fun k => slotPt bStage c k fullShare (stV m c k)) ∗ ch all8 (fun k => slotAny bOther (xn c) k)
          ∗ ch all8 (fun k => at0 c 0 k) ∗ ch all8 (fun k => tk c 0 k) ∗ ch all8 (fun k => tk (xn c) 1 k))
        ∗ (ch all8 (fun k => slotAny bOut c k) ∗ ch all8 (fun k => at0 c 2 k) ∗ ch all8 (fun k => at0 c 4 k)
          ∗ ch all8 (fun k => tk c 2 k) ∗ ch all8 (fun k => tk (yn c) 3 k) ∗ ch all8 (fun k => tk c 4 k) ∗ ch all8 (fun k => tk (zn c) 5 k))
        ∗ ch all8 (fun k => waitable c 1 k) ∗ cred (tallyAt (bar c) () 2) ∗ midBar c
        ∗ hL m c ∗ hG m c ∗ oDone m c [] ∗ owing c (pmtsX c))
      ⊢ iprop(((ch lo4 (fun k => slotAny bDiag (yn c) k) ∗ ch hi4 (fun k => slotAny bDiag (zn c) k) ∗ semVal (bar c) 0
            ∗ ch all8 (fun k => waitable c 0 k) ∗ ch all8 (fun k => waitable c 2 k) ∗ ch all8 (fun k => waitable c 4 k)
            ∗ ch all8 (fun k => gotX m c k) ∗ ch all8 (fun k => sv c 1 k) ∗ hL m c ∗ hG m c
            ∗ outS m c (all8.reverse.map fun k => (qr c, k)) (pFz c lo4 ++ pFy c hi4)) -∗ wpc c rest R)
        -∗ wpc c (loopF (xsendF c) [0, 1, 2, 3, 4, 5, 6, 7] <|
  (waitF bStage bOther w w 1 0).bind fun _ =>
  (semWaitWord barrier0 2#32).bind fun _ =>
  (chunkF c 0).bind fun _ =>
  loopF (fun k => (waitF bStage bOther w w 1 k).bind fun _ => chunkF c k) [1, 2, 3, 4, 5, 6, 7] rest) R) := by
  iintro ⟨#HC, HX, ⟨BU, A2, A4, T2, T3, T4, T5⟩, W1, Hc, Hm, HL, HG, HO, Ho⟩ Hk
  iapply (loop_rule (m := m) (K := K) (KE := KE) (c := c) (f := xsendF c)
    (A := fun k => iprop(slotPt bStage c k fullShare (stV m c k) ∗ slotAny bOther (xn c) k ∗ at0 c 0 k ∗ tk c 0 k ∗ tk (xn c) 1 k))
    (B := fun k => waitable c 0 k) (S := fun _ todo => owing c (pX c todo ++ pAfter c)) all8
    (fun k _ _ todo => xsend_tri c k todo (pAfter c)) [] _ R) $$ [HX Ho]
  · isplitr; · iexact HC
    isplitl [HX]
    · rw [ch_sep, ch_sep, ch_sep, ch_sep]; iexact HX
    iexact Ho
  iintro ⟨W0, Ho⟩
  ihave Ho := (show owing c (pX c [] ++ pAfter c) ⊢ owing (F := F) c (pAfter c) from BI.Entails.refl _) $$ Ho
  ihave W1 := (Entails.of_eq (ch_cons 0 [1, 2, 3, 4, 5, 6, 7] (fun k => waitable (F := F) c 1 k))) $$ W1
  icases W1 with ⟨W10, W1⟩
  iapply (wait_tri (m := m) (K := K) (KE := KE) c bStage bOther w w 1 0 (pAfter c)
    (by rw [lv_dcell]; exact above_after 2 (by decide) c) _ _) $$ [W10 Ho]
  · isplitr; · iexact HC
    isplitl [W10] <;> iassumption
  iintro ⟨Hx, Z10, Ho⟩
  ihave Hx := (show pay m c 1 0 ⊢ gotX m c 0 from BI.Entails.refl _) $$ Hx
  iapply (wait2_tri (m := m) (K := K) (KE := KE) c (pAfter c) (above_after 1 (by decide) c) _ _) $$ [Hc Hm Ho]
  · isplitr; · iexact HC
    isplitl [Hc]; · iexact Hc
    isplitl [Hm] <;> iassumption
  iintro ⟨P4, P5, Zb, Ho⟩
  ihave P4 := (Entails.of_eq (barPay4 (F := F) c)) $$ P4
  icases P4 with ⟨BY, BD0⟩
  ihave P5 := (Entails.of_eq (barPay5 (F := F) c)) $$ P5
  icases P5 with ⟨BZ, BD1⟩
  have hres : ch all8 (fun k => chunkRes (F := F) c k) = iprop(ch all8 (fun k => slotAny bOut c k) ∗ ch all8 (fun k => slotAny bYin (yn c) k)
      ∗ ch all8 (fun k => slotAny bZin (zn c) k) ∗ ch all8 (fun k => at0 c 2 k) ∗ ch all8 (fun k => at0 c 4 k) ∗ ch all8 (fun k => tk c 2 k)
      ∗ ch all8 (fun k => tk (yn c) 3 k) ∗ ch all8 (fun k => tk c 4 k) ∗ ch all8 (fun k => tk (zn c) 5 k)) := by
    unfold chunkRes
    rw [ch_sep, ch_sep, ch_sep, ch_sep, ch_sep, ch_sep, ch_sep, ch_sep]
  ihave CR := (Entails.of_eq hres.symm) $$ [BU BY BZ A2 A4 T2 T3 T4 T5]
  · isplitl [BU]; · iexact BU
    isplitl [BY]; · iexact BY
    isplitl [BZ]; · iexact BZ
    isplitl [A2]; · iexact A2
    isplitl [A4]; · iexact A4
    isplitl [T2]; · iexact T2
    isplitl [T3]; · iexact T3
    isplitl [T4] <;> iassumption
  ihave CR := (Entails.of_eq (ch_cons 0 [1, 2, 3, 4, 5, 6, 7] (fun k => chunkRes (F := F) c k))) $$ CR
  icases CR with ⟨C0, CR⟩
  iapply (chunk_tri (m := m) (K := K) (KE := KE) c 0 [] [1, 2, 3, 4, 5, 6, 7] (pFz c lo4 ++ pFy c hi4) _ _) $$ [Hx C0 HL HG HO Ho]
  · isplitr; · iexact HC
    isplitl [Hx C0]
    · isplitl [Hx] <;> iassumption
    unfold resS
    isplitl [HL]; · iexact HL
    isplitl [HG]; · iexact HG
    isplitl [HO]; · iexact HO
    iexact Ho
  iintro ⟨⟨Hx, W20, W40⟩, HS⟩
  iapply (loop_rule (m := m) (K := K) (KE := KE) (c := c)
    (A := fun k => iprop(waitable c 1 k ∗ chunkRes c k))
    (B := fun k => iprop(sv c 1 k ∗ gotX m c k ∗ waitable c 2 k ∗ waitable c 4 k))
    (S := fun done todo => resS m c (done.map fun k => (qr c, k)) (pYZ c todo ++ (pFz c lo4 ++ pFy c hi4))) [1, 2, 3, 4, 5, 6, 7]
    (fun k _ done todo => wchunk_tri c k (done.map fun k => (qr c, k)) todo _
      ((above_pFz 2 (by decide) c lo4).append (above_pFy 2 (by decide) c hi4))) [0] rest R) $$ [W1 CR HS]
  · isplitr; · iexact HC
    isplitl [W1 CR]
    · rw [ch_sep]
      isplitl [W1] <;> iassumption
    iexact HS
  rw [ch_sep, ch_sep, ch_sep]
  iintro ⟨⟨Z1, HX, W2, W4⟩, HS⟩
  unfold resS
  icases HS with ⟨HL, HG, HO, Ho⟩
  iapply Hk
  isplitl [BD0]; · iexact BD0
  isplitl [BD1]; · iexact BD1
  isplitl [Zb]; · iexact Zb
  isplitl [W0]; · iexact W0
  isplitl [W20 W2]
  · iapply (Entails.of_eq (ch_cons 0 [1, 2, 3, 4, 5, 6, 7] (fun k => waitable (F := F) c 2 k)).symm)
    isplitl [W20] <;> iassumption
  isplitl [W40 W4]
  · iapply (Entails.of_eq (ch_cons 0 [1, 2, 3, 4, 5, 6, 7] (fun k => waitable (F := F) c 4 k)).symm)
    isplitl [W40] <;> iassumption
  isplitl [Hx HX]
  · iapply (Entails.of_eq (ch_cons 0 [1, 2, 3, 4, 5, 6, 7] (fun k => gotX m c k)).symm)
    isplitl [Hx] <;> iassumption
  isplitl [Z10 Z1]
  · iapply (Entails.of_eq (ch_cons 0 [1, 2, 3, 4, 5, 6, 7] (fun k => sv (F := F) c 1 k)).symm)
    isplitl [Z10] <;> iassumption
  isplitl [HL]; · iexact HL
  isplitl [HG]; · iexact HG
  unfold outS
  isplitl [HO]; · iexact HO
  iexact Ho

/-! ## Third phase: the forwarding -/

/-- The chunks of the result after the forwarding. -/
abbrev Tfwd (c : Dev nD) : List (Fin 4 × Fin 8) :=
  (hi4.reverse.map fun k => (qr (yn c), k)) ++ ((lo4.reverse.map fun k => (qr (zn c), k)) ++ all8.reverse.map fun k => (qr c, k))

/-- The third phase: half of the chunks of each neighbour go on to the device across. -/
theorem phase3 (c : Dev nD) (rest : KProg F) (R : PUnit → sProp 𝕄) :
    iprop(Ctx m K KE
        ∗ (ch lo4 (fun k => waitable c 5 k) ∗ ch lo4 (fun k => slotAny bDiag (yn c) k) ∗ ch lo4 (fun k => at0 c 6 k) ∗ ch lo4 (fun k => tk c 6 k)
          ∗ ch lo4 (fun k => tk (yn c) 7 k))
        ∗ (ch hi4 (fun k => waitable c 3 k) ∗ ch hi4 (fun k => slotAny bDiag (zn c) k) ∗ ch hi4 (fun k => at0 c 6 k) ∗ ch hi4 (fun k => tk c 6 k)
          ∗ ch hi4 (fun k => tk (zn c) 7 k))
        ∗ outS m c (all8.reverse.map fun k => (qr c, k)) (pFz c lo4 ++ pFy c hi4))
      ⊢ iprop((((ch lo4 (fun k => sv c 5 k) ∗ ch lo4 (fun k => slotPt bZin c k fullShare.right (outV m (zn c) k)) ∗ ch lo4 (fun k => waitable c 6 k))
            ∗ (ch hi4 (fun k => sv c 3 k) ∗ ch hi4 (fun k => slotPt bYin c k fullShare.right (outV m (yn c) k)) ∗ ch hi4 (fun k => waitable c 6 k))
            ∗ outS m c (Tfwd c) []) -∗ wpc c rest R)
        -∗ wpc c (loopF (fwdzF c) [0, 1, 2, 3] <| loopF (fwdyF c) [4, 5, 6, 7] rest) R) := by
  iintro ⟨#HC, HZ, HY, HS⟩ Hk
  iapply (loop_rule (m := m) (K := K) (KE := KE) (c := c) (f := fwdzF c)
    (A := fun k => iprop(waitable c 5 k ∗ slotAny bDiag (yn c) k ∗ at0 c 6 k ∗ tk c 6 k ∗ tk (yn c) 7 k))
    (B := fun k => iprop(sv c 5 k ∗ slotPt bZin c k fullShare.right (outV m (zn c) k) ∗ waitable c 6 k))
    (S := fun done todo => outS m c ((done.map fun k => (qr (zn c), k)) ++ all8.reverse.map fun k => (qr c, k)) (pFz c todo ++ pFy c hi4)) lo4
    (fun k hk done todo => fwdz_tri c k (by revert hk; revert k; decide) _ todo _ (above_pFy 3 (by decide) c hi4)) [] _ R) $$ [HZ HS]
  · isplitr; · iexact HC
    isplitl [HZ]
    · rw [ch_sep, ch_sep, ch_sep, ch_sep]; iexact HZ
    iexact HS
  rw [ch_sep, ch_sep]
  iintro ⟨HZ, HS⟩
  iapply (loop_rule (m := m) (K := K) (KE := KE) (c := c) (f := fwdyF c)
    (A := fun k => iprop(waitable c 3 k ∗ slotAny bDiag (zn c) k ∗ at0 c 6 k ∗ tk c 6 k ∗ tk (zn c) 7 k))
    (B := fun k => iprop(sv c 3 k ∗ slotPt bYin c k fullShare.right (outV m (yn c) k) ∗ waitable c 6 k))
    (S := fun done todo => outS m c ((done.map fun k => (qr (yn c), k)) ++ ((lo4.reverse.map fun k => (qr (zn c), k)) ++ all8.reverse.map fun k => (qr c, k)))
      (pFy c todo)) hi4
    (fun k hk done todo => fwdy_tri c k (by revert hk; revert k; decide) _ todo) [] _ R) $$ [HY HS]
  · isplitr; · iexact HC
    isplitl [HY]
    · rw [ch_sep, ch_sep, ch_sep, ch_sep]; iexact HY
    iexact HS
  rw [ch_sep, ch_sep]
  iintro ⟨HY, HS⟩
  iapply Hk
  isplitl [HZ]; · iexact HZ
  isplitl [HY]; · iexact HY
  iexact HS

/-! ## Fourth phase: the remaining receipts and the final waits -/

/-- The chunks of the result after the remaining receipts. -/
abbrev Trec (c : Dev nD) (T : List (Fin 4 × Fin 8)) : List (Fin 4 × Fin 8) :=
  (all8.reverse.map fun k => (qr (dn c), k)) ++ ((hi4.reverse.map fun k => (qr (zn c), k)) ++ ((lo4.reverse.map fun k => (qr (yn c), k)) ++ T))

set_option maxHeartbeats 1000000 in
/-- The fourth phase. -/
theorem phase4 (c : Dev nD) (T : List (Fin 4 × Fin 8)) (R : PUnit → sProp 𝕄) :
    iprop(Ctx m K KE
        ∗ ch lo4 (fun k => waitable c 3 k) ∗ ch hi4 (fun k => waitable c 5 k) ∗ ch all8 (fun k => waitable c 7 k)
        ∗ (ch all8 (fun k => waitable c 0 k) ∗ ch all8 (fun k => waitable c 2 k) ∗ ch all8 (fun k => waitable c 4 k))
        ∗ ch lo4 (fun k => waitable c 6 k) ∗ ch hi4 (fun k => waitable c 6 k)
        ∗ outS m c (T) [])
      ⊢ iprop((((ch lo4 (fun k => sv c 3 k) ∗ ch lo4 (fun k => slotPt bYin c k fullShare (outV m (yn c) k)))
            ∗ (ch hi4 (fun k => sv c 5 k) ∗ ch hi4 (fun k => slotPt bZin c k fullShare (outV m (zn c) k)))
            ∗ (ch all8 (fun k => sv c 7 k) ∗ ch all8 (fun k => slotPt bDiag c k fullShare (outV m (dn c) k)))
            ∗ ((ch all8 (fun k => pay m c 0 k) ∗ ch all8 (fun k => sv c 0 k)) ∗ (ch all8 (fun k => pay m c 2 k) ∗ ch all8 (fun k => sv c 2 k))
              ∗ (ch all8 (fun k => pay m c 4 k) ∗ ch all8 (fun k => sv c 4 k)))
            ∗ (ch lo4 (fun k => pay m c 6 k) ∗ ch lo4 (fun k => sv c 6 k))
            ∗ (ch hi4 (fun k => pay m c 6 k) ∗ ch hi4 (fun k => sv c 6 k))
            ∗ outS m c (Trec c T) []) -∗ R ⟨⟩)
        -∗ wpc c (loopF (recyF c) [0, 1, 2, 3] <|
  loopF (reczF c) [4, 5, 6, 7] <|
  loopF (recdF c) [0, 1, 2, 3, 4, 5, 6, 7] <|
  loopF doneF [0, 1, 2, 3, 4, 5, 6, 7] <|
  loopF (fun k => waitF bDiag bZin w w 6 k) [0, 1, 2, 3] <|
  loopF (fun k => waitF bDiag bYin w w 6 k) [4, 5, 6, 7] (.ret ⟨⟩)) R) := by
  iintro ⟨#HC, WY, WZ, WD, WE, WF0, WF1, HS⟩ Hk
  iapply (loop_rule (m := m) (K := K) (KE := KE) (c := c) (f := recyF c)
    (A := fun k => waitable c 3 k) (B := fun k => iprop(sv c 3 k ∗ slotPt bYin c k fullShare (outV m (yn c) k)))
    (S := fun done _ => outS m c ((done.map fun k => (qr (yn c), k)) ++ T) []) lo4
    (fun k _ done todo => recy_tri c k _) [] _ R) $$ [WY HS]
  · isplitr; · iexact HC
    isplitl [WY]; · iexact WY
    iexact HS
  rw [ch_sep, List.append_nil]
  iintro ⟨HY, HS⟩
  iapply (loop_rule (m := m) (K := K) (KE := KE) (c := c) (f := reczF c)
    (A := fun k => waitable c 5 k) (B := fun k => iprop(sv c 5 k ∗ slotPt bZin c k fullShare (outV m (zn c) k)))
    (S := fun done _ => outS m c ((done.map fun k => (qr (zn c), k)) ++ ((lo4.reverse.map fun k => (qr (yn c), k)) ++ T)) []) hi4
    (fun k _ done todo => recz_tri c k _) [] _ R) $$ [WZ HS]
  · isplitr; · iexact HC
    isplitl [WZ]; · iexact WZ
    rw [List.map_nil, List.nil_append]
    iexact HS
  rw [ch_sep, List.append_nil]
  iintro ⟨HZ, HS⟩
  iapply (loop_rule (m := m) (K := K) (KE := KE) (c := c) (f := recdF c)
    (A := fun k => waitable c 7 k) (B := fun k => iprop(sv c 7 k ∗ slotPt bDiag c k fullShare (outV m (dn c) k)))
    (S := fun done _ => outS m c ((done.map fun k => (qr (dn c), k)) ++ ((hi4.reverse.map fun k => (qr (zn c), k)) ++ ((lo4.reverse.map fun k => (qr (yn c), k)) ++ T))) []) all8
    (fun k _ done todo => recd_tri c k _) [] _ R) $$ [WD HS]
  · isplitr; · iexact HC
    isplitl [WD]; · iexact WD
    rw [List.map_nil, List.nil_append]
    iexact HS
  rw [ch_sep, List.append_nil]
  iintro ⟨HD, HS⟩
  unfold outS
  icases HS with ⟨HO, Ho⟩
  iapply (loop_rule (m := m) (K := K) (KE := KE) (c := c) (f := doneF)
    (A := fun k => iprop(waitable c 0 k ∗ waitable c 2 k ∗ waitable c 4 k))
    (B := fun k => iprop((pay m c 0 k ∗ sv c 0 k) ∗ (pay m c 2 k ∗ sv c 2 k) ∗ (pay m c 4 k ∗ sv c 4 k)))
    (S := fun _ _ => owing c []) all8 (fun k _ _ _ => done_tri c k) [] _ R) $$ [WE Ho]
  · isplitr; · iexact HC
    isplitl [WE]
    · rw [ch_sep, ch_sep]; iexact WE
    iexact Ho
  rw [ch_sep, ch_sep, ch_sep, ch_sep, ch_sep]
  iintro ⟨HE, Ho⟩
  iapply (loop_rule (m := m) (K := K) (KE := KE) (c := c)
    (A := fun k => waitable c 6 k) (B := fun k => iprop(pay m c 6 k ∗ sv c 6 k))
    (S := fun _ _ => owing c []) lo4 (fun k _ _ _ => fin_tri c bDiag bZin w w k) [] _ R) $$ [WF0 Ho]
  · isplitr; · iexact HC
    isplitl [WF0] <;> iassumption
  rw [ch_sep]
  iintro ⟨HF0, Ho⟩
  iapply (loop_rule (m := m) (K := K) (KE := KE) (c := c)
    (A := fun k => waitable c 6 k) (B := fun k => iprop(pay m c 6 k ∗ sv c 6 k))
    (S := fun _ _ => owing c []) hi4 (fun k _ _ _ => fin_tri c bDiag bYin w w k) [] _ R) $$ [WF1 Ho]
  · isplitr; · iexact HC
    isplitl [WF1] <;> iassumption
  rw [ch_sep]
  iintro ⟨HF1, Ho⟩
  unfold wpc
  rw [wp_ret]
  imodintro
  iapply Hk
  isplitl [HY]; · iexact HY
  isplitl [HZ]; · iexact HZ
  isplitl [HD]; · iexact HD
  isplitl [HE]; · iexact HE
  isplitl [HF0]; · iexact HF0
  isplitl [HF1]; · iexact HF1
  isplitl [HO]; · iexact HO
  iexact Ho

end Cert.KernelIdeal.Ar
end
-- ==== Proof.Body.lean ====
/- The body of one device from what it starts with to what it leaves, and its place in the pipeline. -/
module

public import proofs.«01_k».proof.Proof.Phases
public import Idealize.ShloMosaic.Lib.Ring

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : Mem0 F) (ρ : Dev nD → PrngReg)

/-! ## Scratch buffers and their chunks -/

theorem slotR_disjoint (k k' : Fin 8) (h : k ≠ k') : Disjoint (slotR k).set (slotR k').set :=
  Ring.lead_disjoint (s := S8x32x1024) (0 : Fin 3) 1 (fun k : Fin 8 => (![k.val, 0, 0] : Fin 3 → ℕ)) S1x32x1024.size slot_inb
    (by decide) rfl k k' h
theorem slotR_cover : Finset.univ.biUnion (fun k : Fin 8 => (slotR k).set) = Finset.univ :=
  Ring.lead_cover (s := S8x32x1024) (0 : Fin 3) 1 (fun k : Fin 8 => (![k.val, 0, 0] : Fin 3 → ℕ)) S1x32x1024.size slot_inb
    (by decide) (by decide) rfl (by decide) rfl

/-- The elements of chunk `k`, as elements of the buffer. -/
abbrev slS (M : Slots) (k : Fin 8) : Finset M.view.ty.Idx := (sl M k).view.set
theorem sl_disjoint (M : Slots) (k k' : Fin 8) (h : k ≠ k') : Disjoint (slS M k) (slS M k') := by
  show Disjoint (sl M k).view.set (sl M k').view.set
  rw [← slot_set, ← slot_set]
  exact View.disjoint_slice (v := M.view) (slotR_disjoint k k' h)
theorem sl_cover (M : Slots) (hM : M.view.set = Finset.univ) : Finset.univ.biUnion (fun k : Fin 8 => slS M k) = Finset.univ := by
  rw [← hM]
  refine Finset.Subset.antisymm (fun i _ => by rw [hM]; exact Finset.mem_univ _) fun i hi => ?_
  rw [View.set, Finset.mem_map] at hi
  obtain ⟨x, -, rfl⟩ := hi
  obtain ⟨t, -, hx⟩ := Finset.mem_biUnion.mp (slotR_cover.symm ▸ Finset.mem_univ x)
  refine Finset.mem_biUnion.mpr ⟨t, Finset.mem_univ _, ?_⟩
  show _ ∈ (sl M t).view.set
  rw [← slot_set]
  show _ ∈ (M.view.slice (slotR t)).set
  rw [View.set_slice]
  exact Finset.mem_map_of_mem _ hx

/-- A buffer held whole is its eight chunks. -/
theorem slots_split (M : Slots) (hM : M.view.set = Finset.univ) (c : Dev nD) :
    iprop(∃ f : Buf (Elt F) (M.view.loc (c : Thread nD τ)), (M.view.loc (c : Thread nD τ)) ↦{fullShare} f)
      ⊢ ch all8 (fun k => slotAny (F := F) M c k) := by
  rw [← ch_univ]
  iintro ⟨%f, H⟩
  ihave H := (Entails.of_eq (Ring.pointsTo_blocks (ℓ := M.view.loc (c : Thread nD τ)) (fun k : Fin 8 => slS M k)
    (sl_disjoint M) (sl_cover M hM) f)) $$ H
  iapply (show bigSep Finset.univ (fun k : Fin 8 => ((M.view.loc (c : Thread nD τ)) ↦[slS M k]{fullShare} f : sProp 𝕄))
      ⊢ bigSep Finset.univ (fun k => slotAny (F := F) M c k) from bigSep_mono fun k _ => by
    show ((M.view.loc (c : Thread nD τ)) ↦[slS M k]{fullShare} f : sProp 𝕄) ⊢ slotAny (F := F) M c k
    unfold slotAny
    iintro H
    iexists f
    iexact H)
  iexact H

/-- Eight chunks make up the buffer. -/
theorem slots_join (M : Slots) (hM : M.view.set = Finset.univ) (c : Dev nD) (f₀ : Buf (Elt F) (M.view.loc (c : Thread nD τ))) :
    ch all8 (fun k => slotAny (F := F) M c k)
      ⊢ iprop(∃ f : Buf (Elt F) (M.view.loc (c : Thread nD τ)), (M.view.loc (c : Thread nD τ)) ↦{fullShare} f) := by
  rw [← ch_univ]
  exact Ring.pointsTo_blocks_join_exists (ℓ := M.view.loc (c : Thread nD τ)) (fun k : Fin 8 => slS M k)
    (sl_disjoint M) (sl_cover M hM) f₀

/-- A scratch buffer held whole with any contents. -/
abbrev scr (c : Dev nD) (b : Ref sig .tc) : sProp 𝕄 :=
  iprop(∃ f : Buf (Elt F) ((c : Thread nD τ).loc b), ((c : Thread nD τ).loc b) ↦{fullShare} f)
/-- All scratch buffers of a device. -/
def scrs (c : Dev nD) : sProp 𝕄 :=
  iprop(scr (F := F) c cc0_scratch0 ∗ scr (F := F) c cc0_scratch1 ∗ scr (F := F) c cc0_scratch2 ∗ scr (F := F) c cc0_scratch3
    ∗ scr (F := F) c cc0_scratch4 ∗ scr (F := F) c cc0_scratch5 ∗ scr (F := F) c cc0_scratch6)

/-! ## The result -/

/-- The index of row `r` and column `j` of a chunk. -/
def chunkIx (r j : ℕ) (hr : r < 32) (hj : j < 1024) : S32x1024.Idx := fun | ⟨0, _⟩ => ⟨r, hr⟩ | ⟨1, _⟩ => ⟨j, hj⟩
/-- The result on device `c`: rows of quarter `s` are those normalised by the device of that quarter. -/
def outAt (c : Dev nD) : S1024x1024.Idx → Elt F .f32 := fun i =>
  ext (outV m (qdev c ⟨(i 0).val / 256, Nat.div_lt_of_lt_mul (i 0).isLt⟩)
      ⟨(i 0).val % 256 / 32, Nat.div_lt_of_lt_mul (Nat.mod_lt _ (by decide))⟩)
    (chunkIx ((i 0).val % 32) (i 1).val (Nat.mod_lt _ (by decide)) (i 1).isLt)

/-- Contents that hold every normalised chunk are the result. -/
theorem out_unique (c : Dev nD) (f : S1024x1024.Idx → Elt F .f32)
    (h : ∀ s k, (bO.access (rowsR s k)).read (Elt F) f = ext (outV m (qdev c s) k)) : f = outAt m c := by
  funext i
  unfold outAt
  rw [← h]
  generalize hj : chunkIx ((i 0).val % 32) (i 1).val (Nat.mod_lt _ (by decide)) (i 1).isLt = j
  have h0 : (j 0).val = (i 0).val % 32 := by rw [← hj]; rfl
  have h1 : (j 1).val = (i 1).val := by rw [← hj]; rfl
  clear hj
  rw [View.read_apply]
  refine congrArg f (funext fun a => Fin.ext ?_)
  revert a
  refine Fin.forall_fin_two.mpr ⟨?_, ?_⟩
  · show (i 0).val = (256 * ((i 0).val / 256) + 32 * ((i 0).val % 256 / 32)) + 1 * (j 0).val
    rw [h0]
    omega
  · show (i 1).val = 0 + 1 * (j 1).val
    rw [h1]
    omega

theorem all_done (c : Dev nD) (s : Fin 4) (k : Fin 8) : (s, k) ∈ Trec c (Tfwd c) := by
  revert c s k; decide +kernel

/-- All chunks written make the result. -/
theorem out_done (c : Dev nD) : oDone m c (Trec c (Tfwd c)) ⊢ pt c cc0_stg3_0 (outAt m c) := by
  unfold oDone
  iintro ⟨%f, %hf, H⟩
  have e : f = outAt m c := out_unique m c f fun s k => hf (s, k) (all_done c s k)
  subst e
  iexact H

/-! ## The start and the end of a device -/

/-- What device `c` may use up. -/
def startC (c : Dev nD) : sProp 𝕄 :=
  iprop(sigToks c ∗ atPos ER (bar c) 0 ∅ 0
    ∗ (ch all8 (fun k => at0 c 0 k) ∗ ch all8 (fun k => at0 c 1 k) ∗ ch all8 (fun k => at0 c 2 k) ∗ ch all8 (fun k => at0 c 3 k)
      ∗ ch all8 (fun k => at0 c 4 k) ∗ ch all8 (fun k => at0 c 5 k) ∗ ch all8 (fun k => at0 c 6 k) ∗ ch all8 (fun k => at0 c 7 k))
    ∗ (ch all8 (fun k => tk c 0 k) ∗ ch all8 (fun k => tk (xn c) 1 k) ∗ ch all8 (fun k => tk c 2 k) ∗ ch all8 (fun k => tk (yn c) 3 k)
      ∗ ch all8 (fun k => tk c 4 k) ∗ ch all8 (fun k => tk (zn c) 5 k) ∗ ch all8 (fun k => tk c 6 k)
      ∗ ch lo4 (fun k => tk (yn c) 7 k) ∗ ch hi4 (fun k => tk (zn c) 7 k)))

/-- The credit of device `c`'s receive cells of class `a`. -/
abbrev crs (c : Dev nD) (a : Fin 8) : sProp 𝕄 := ch all8 (fun k => cred (tallyAt (dcell c a k) () N))
/-- The credit device `c` starts with. -/
def credC (c : Dev nD) : sProp 𝕄 := iprop(cred (tallyAt (bar c) () 6) ∗ crs c 1 ∗ crs c 3 ∗ crs c 5 ∗ crs c 7)

/-- All cells of device `c` are done with. -/
def endC (c : Dev nD) : sProp 𝕄 :=
  iprop(semVal (bar c) 0 ∗ ch all8 (fun k => sv c 0 k) ∗ ch all8 (fun k => sv c 1 k) ∗ ch all8 (fun k => sv c 2 k) ∗ ch all8 (fun k => sv c 3 k)
    ∗ ch all8 (fun k => sv c 4 k) ∗ ch all8 (fun k => sv c 5 k) ∗ ch all8 (fun k => sv c 6 k) ∗ ch all8 (fun k => sv c 7 k))

theorem waitables (c : Dev nD) (a : Fin 8) : iprop(crs c a ∗ ch all8 (fun k => at0 c a k)) ⊢ ch all8 (fun k => waitable (F := F) c a k) := by
  unfold waitable
  rw [ch_sep]

theorem bar_credit (c : Dev nD) : (cred (tallyAt (bar c) () 6) : sProp 𝕄) ⊢ iprop(cred (tallyAt (bar c) () 4) ∗ cred (tallyAt (bar c) () 2)) := by
  have e : (tallyAt (bar c) () 6 : CellTallies nD τ sig Unit) = tallyAt (bar c) () 4 + tallyAt (bar c) () 2 := by
    rw [tallyAt_add]
  rw [e]
  exact (cred_add _ _).1

variable {m}
variable {K : Dev nD × Key → ℕ} {KE : Dev nD → ℕ}

set_option maxHeartbeats 1600000 in
/-- The body of one device. -/
theorem body_run (c : Dev nD) (f₃ : (cc0_stg3_0 : Ref sig .tc).ty.Contents (Elt F)) (R : PUnit → sProp 𝕄) :
    iprop(Ctx m K KE ∗ startC c ∗ credC c ∗ scrs c ∗ owing c (pmts c) ∗ hP m c ∗ hR m c ∗ hG m c ∗ pt c cc0_stg3_0 f₃)
      ⊢ iprop((iprop(endC c ∗ scrs c ∗ owing c [] ∗ hP m c ∗ hR m c ∗ hG m c ∗ pt c cc0_stg3_0 (outAt m c)) -∗ R ⟨⟩)
        -∗ wpc c bodyF R) := by
  unfold startC credC scrs bodyF wpc
  rw [wp_deviceId]
  iintro ⟨#HC, ⟨Sg, Ab, ⟨A0, A1, A2, A3, A4, A5, A6, A7⟩, ⟨T0, T1, T2, T3, T4, T5, T6, T7y, T7z⟩⟩, ⟨Cb, C1, C3, C5, C7⟩,
    ⟨B0, B1, B2, B3, B4, B5, B6⟩, Ho, HP, HR, HG, HO⟩ Hk
  icases B6 with ⟨%f₆, B6⟩
  ihave Cb := (bar_credit (F := F) c) $$ Cb
  icases Cb with ⟨Cb4, Cb2⟩
  ihave W1 := (waitables (F := F) c 1) $$ [C1 A1]
  · isplitl [C1] <;> iassumption
  ihave W3 := (waitables (F := F) c 3) $$ [C3 A3]
  · isplitl [C3] <;> iassumption
  ihave W5 := (waitables (F := F) c 5) $$ [C5 A5]
  · isplitl [C5] <;> iassumption
  ihave W7 := (waitables (F := F) c 7) $$ [C7 A7]
  · isplitl [C7] <;> iassumption
  ihave B0 := (slots_split (F := F) bStage (View.set_whole _) c) $$ B0
  ihave B1 := (slots_split (F := F) bOther (View.set_whole _) c) $$ B1
  ihave B2 := (slots_split (F := F) bOut (View.set_whole _) c) $$ B2
  ihave B3 := (slots_split (F := F) bYin (View.set_whole _) c) $$ B3
  ihave B4 := (slots_split (F := F) bZin (View.set_whole _) c) $$ B4
  ihave B5 := (slots_split (F := F) bDiag (View.set_whole _) c) $$ B5
  iapply (phase1 (m := m) (K := K) (KE := KE) c f₆ _ R) $$ [Sg Cb4 Ab B0 B1 B3 B4 B5 B6 HP HR Ho]
  · isplitr; · iexact HC
    isplitl [Sg]; · iexact Sg
    isplitl [Cb4]; · iexact Cb4
    isplitl [Ab]; · iexact Ab
    isplitl [B0 B1 B3 B4 B5]
    · isplitl [B0]; · iexact B0
      isplitl [B1]; · iexact B1
      isplitl [B3]; · iexact B3
      isplitl [B4] <;> iassumption
    isplitl [B6]; · iexact B6
    isplitl [HP]; · iexact HP
    isplitl [HR] <;> iassumption
  iintro ⟨Hm, B1, B0, HL, HP, HR, Ho⟩
  ihave HO := (show pt c cc0_stg3_0 f₃ ⊢ oDone m c [] from by
    unfold oDone
    iintro H
    iexists f₃
    isplitr
    · ipureintro; intro sk h; exact absurd h List.not_mem_nil
    iexact H) $$ HO
  iapply (phase2 (m := m) (K := K) (KE := KE) c _ R) $$ [B0 B1 A0 T0 T1 B2 A2 A4 T2 T3 T4 T5 W1 Cb2 Hm HL HG HO Ho]
  · isplitr; · iexact HC
    isplitl [B0 B1 A0 T0 T1]
    · isplitl [B0]; · iexact B0
      isplitl [B1]; · iexact B1
      isplitl [A0]; · iexact A0
      isplitl [T0] <;> iassumption
    isplitl [B2 A2 A4 T2 T3 T4 T5]
    · isplitl [B2]; · iexact B2
      isplitl [A2]; · iexact A2
      isplitl [A4]; · iexact A4
      isplitl [T2]; · iexact T2
      isplitl [T3]; · iexact T3
      isplitl [T4] <;> iassumption
    isplitl [W1]; · iexact W1
    isplitl [Cb2]; · iexact Cb2
    isplitl [Hm]; · iexact Hm
    isplitl [HL]; · iexact HL
    isplitl [HG]; · iexact HG
    isplitl [HO] <;> iassumption
  iintro ⟨BDy, BDz, Zb, W0, W2, W4, GX, Z1, HL, HG, HS⟩
  ihave W3 := (Entails.of_eq (ch_halves (fun k => waitable (F := F) c 3 k))) $$ W3
  ihave W5 := (Entails.of_eq (ch_halves (fun k => waitable (F := F) c 5 k))) $$ W5
  ihave A6 := (Entails.of_eq (ch_halves (fun k => at0 (F := F) c 6 k))) $$ A6
  ihave T6 := (Entails.of_eq (ch_halves (fun k => tk (F := F) c 6 k))) $$ T6
  icases W3 with ⟨W3l, W3h⟩
  icases W5 with ⟨W5l, W5h⟩
  icases A6 with ⟨A6l, A6h⟩
  icases T6 with ⟨T6l, T6h⟩
  iapply (phase3 (m := m) (K := K) (KE := KE) c _ R) $$ [W5l BDy A6l T6l T7y W3h BDz A6h T6h T7z HS]
  · isplitr; · iexact HC
    isplitl [W5l BDy A6l T6l T7y]
    · isplitl [W5l]; · iexact W5l
      isplitl [BDy]; · iexact BDy
      isplitl [A6l]; · iexact A6l
      isplitl [T6l] <;> iassumption
    isplitl [W3h BDz A6h T6h T7z]
    · isplitl [W3h]; · iexact W3h
      isplitl [BDz]; · iexact BDz
      isplitl [A6h]; · iexact A6h
      isplitl [T6h] <;> iassumption
    iexact HS
  iintro ⟨⟨Z5l, BZr, W6l⟩, ⟨Z3h, BYr, W6h⟩, HS⟩
  iapply (phase4 (m := m) (K := K) (KE := KE) c (Tfwd c) R) $$ [W3l W5h W7 W0 W2 W4 W6l W6h HS]
  · isplitr; · iexact HC
    isplitl [W3l]; · iexact W3l
    isplitl [W5h]; · iexact W5h
    isplitl [W7]; · iexact W7
    isplitl [W0 W2 W4]
    · isplitl [W0]; · iexact W0
      isplitl [W2] <;> iassumption
    isplitl [W6l]; · iexact W6l
    isplitl [W6h] <;> iassumption
  iintro ⟨⟨Z3l, BYl⟩, ⟨Z5h, BZh⟩, ⟨Z7, BD⟩, ⟨⟨P0, Z0⟩, ⟨P2, Z2⟩, ⟨P4, Z4⟩⟩, ⟨P6l, Z6l⟩, ⟨P6h, Z6h⟩, HS⟩
  unfold outS
  icases HS with ⟨HO, Ho⟩
  ihave HO := (out_done m c) $$ HO
  iapply Hk
  isplitl [Zb Z0 Z1 Z2 Z3l Z3h Z4 Z5l Z5h Z6l Z6h Z7]
  · unfold endC
    rw [ch_halves (fun k => sv (F := F) c 3 k), ch_halves (fun k => sv (F := F) c 5 k), ch_halves (fun k => sv (F := F) c 6 k)]
    isplitl [Zb]; · iexact Zb
    isplitl [Z0]; · iexact Z0
    isplitl [Z1]; · iexact Z1
    isplitl [Z2]; · iexact Z2
    isplitl [Z3l Z3h]; · isplitl [Z3l] <;> iassumption
    isplitl [Z4]; · iexact Z4
    isplitl [Z5l Z5h]; · isplitl [Z5l] <;> iassumption
    isplitl [Z6l Z6h]; · isplitl [Z6l] <;> iassumption
    iexact Z7
  isplitl [P0 GX P2 P4 BYl BYr P6h BZh BZr P6l BD HL]
  · isplitl [P0]
    · iapply (slots_join (F := F) bStage (View.set_whole _) c (fun _ => FloatOps.ofBits (F := F) .bf16 0))
      iapply (ch_mono all8 (fun k => pay m c 0 k) (fun k => slotAny (F := F) bStage c k) fun k _ => slot_whole bStage c k (stV m c k))
      iexact P0
    isplitl [GX]
    · iapply (slots_join (F := F) bOther (View.set_whole _) c (fun _ => FloatOps.ofBits (F := F) .bf16 0))
      iapply (ch_mono all8 (fun k => gotX m c k) (fun k => slotAny (F := F) bOther c k) fun k _ => slot_whole bOther c k _)
      iexact GX
    isplitl [P2 P4]
    · iapply (slots_join (F := F) bOut (View.set_whole _) c (fun _ => FloatOps.ofBits (F := F) .bf16 0))
      iapply (ch_mono all8 (fun k => iprop(pay m c 2 k ∗ pay m c 4 k)) (fun k => slotAny (F := F) bOut c k) fun k _ =>
        slot_join bOut c k (outV m c k) (outV m c k))
      rw [ch_sep]
      isplitl [P2] <;> iassumption
    isplitl [BYl BYr P6h]
    · iapply (slots_join (F := F) bYin (View.set_whole _) c (fun _ => FloatOps.ofBits (F := F) .bf16 0))
      rw [ch_halves]
      isplitl [BYl]
      · iapply (ch_mono lo4 (fun k => slotPt bYin c k fullShare (outV m (yn c) k)) (fun k => slotAny (F := F) bYin c k) fun k _ => slot_whole bYin c k _)
        iexact BYl
      · iapply (ch_mono hi4 (fun k => iprop(pay m c 6 k ∗ slotPt bYin c k fullShare.right (outV m (yn c) k))) (fun k => slotAny (F := F) bYin c k) fun k hk => by
          have hk : ¬ k.val < 4 := by revert hk; revert k; decide
          unfold pay payBuf; rw [if_neg hk]
          exact slot_join bYin c k _ _)
        rw [ch_sep]
        isplitl [P6h] <;> iassumption
    isplitl [BZh BZr P6l]
    · iapply (slots_join (F := F) bZin (View.set_whole _) c (fun _ => FloatOps.ofBits (F := F) .bf16 0))
      rw [ch_halves]
      isplitl [BZr P6l]
      · iapply (ch_mono lo4 (fun k => iprop(pay m c 6 k ∗ slotPt bZin c k fullShare.right (outV m (zn c) k))) (fun k => slotAny (F := F) bZin c k) fun k hk => by
          have hk : k.val < 4 := by revert hk; revert k; decide
          unfold pay payBuf; rw [if_pos hk]
          exact slot_join bZin c k _ _)
        rw [ch_sep]
        isplitl [P6l] <;> iassumption
      · iapply (ch_mono hi4 (fun k => slotPt bZin c k fullShare (outV m (zn c) k)) (fun k => slotAny (F := F) bZin c k) fun k _ => slot_whole bZin c k _)
        iexact BZh
    isplitl [BD]
    · iapply (slots_join (F := F) bDiag (View.set_whole _) c (fun _ => FloatOps.ofBits (F := F) .bf16 0))
      iapply (ch_mono all8 (fun k => slotPt bDiag c k fullShare (outV m (dn c) k)) (fun k => slotAny (F := F) bDiag c k) fun k _ => slot_whole bDiag c k _)
      iexact BD
    unfold hL
    iexists _
    iexact HL
  isplitl [Ho]; · iexact Ho
  isplitl [HP]; · iexact HP
  isplitl [HR]; · iexact HR
  isplitl [HG] <;> iassumption

end Cert.KernelIdeal.Ar
end
-- ==== Proof.Pipe.lean ====
/- The pipeline's description of each device, and the body's obligation in it. -/
module

public import proofs.«01_k».proof.Proof.Body

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : Mem0 F)

/-- The shared knowledge and the device's own part. -/
def start (c : Dev nD) : sProp 𝕄 := iprop((∃ K KE, Ctx m K KE) ∗ startC c ∗ credC c)

/-- One device in the pipeline. -/
def dats (_ : Fin 1) (c : Dev nD) : Dat τ (Elt F) Unit ℕ UU ℕ cfg0 c where
  A w := m ((cfg0.win w).arr.view.loc (c : Thread nD τ))
  after w _ := match w with
    | ⟨0, _⟩ => inP m c
    | ⟨1, _⟩ => inR m c
    | ⟨2, _⟩ => inG m c
    | ⟨3, _⟩ => outAt m c
  Φ t := match t with
    | ⟨0, _⟩ => iprop(start m c ∗ scrs c)
    | ⟨_ + 1, _⟩ => iprop(endC c ∗ scrs c)
  q _ := fullShare
  owed t := match t with
    | ⟨0, _⟩ => tally (pmts c)
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) :=
  bigSep_W0 Φ

/-- The only step. -/
def t₀ : Fin cfg0.N := t0_0
theorem fin_N (t : Fin cfg0.N) : t = t₀ := fin_N0 t

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

/-- A whole buffer owned at known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_pt (c : Dev nD) (b : Ref sig .tc) (X : b.ty.Contents (Elt F)) : stg c b X ⊢ pt c b X := by
  iintro ⟨%f, %h, H⟩
  subst h
  iexact H
theorem pt_stg (c : Dev nD) (b : Ref sig .tc) (X : b.ty.Contents (Elt F)) : pt c b X ⊢ stg c b X := by
  iintro H
  iexists _
  isplitr
  · ipureintro; rfl
  iexact H

/-- What the body is given. -/
def bodyPre (c : Dev nD) : sProp 𝕄 :=
  iprop((start m c ∗ scrs c) ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
/-- What the body leaves. -/
def bodyPost (c : Dev nD) : sProp 𝕄 :=
  iprop((endC c ∗ scrs c) ∗ (dats m 0 c).owesAt () t₀.succ
    ∗ stg c cc0_stg0_0 (inP m c) ∗ stg c cc0_stg1_0 (inR m c) ∗ stg c cc0_stg2_0 (inG m c) ∗ stg c cc0_stg3_0 (outAt m c))

theorem before_0 (c : Dev nD) (d) : (dats m 0 c).before (0 : Fin 4) t₀ d = inP m c := by
  unfold Dat.before; rw [if_pos (fetch_0 t₀)]; rfl
theorem before_1 (c : Dev nD) (d) : (dats m 0 c).before (1 : Fin 4) t₀ d = inR m c := by
  unfold Dat.before; rw [if_pos (fetch_1 t₀)]; rfl
theorem before_2 (c : Dev nD) (d) : (dats m 0 c).before (2 : Fin 4) t₀ d = inG m c := by
  unfold Dat.before; rw [if_pos (fetch_2 t₀)]; rfl

theorem owes_in (c : Dev nD) : (dats m 0 c).owesAt () t₀.castSucc ⊢ owing c (pmts c) := by
  unfold Dat.owesAt Pipeline.owesWithin owing
  iintro ⟨%W, %_h, H⟩
  iexists W
  iexact H
theorem owes_out (c : Dev nD) : owing c [] ⊢ (dats m 0 c).owesAt () t₀.succ := by
  unfold Dat.owesAt Pipeline.owesWithin owing
  iintro ⟨%W, H⟩
  iexists W
  isplitr
  · ipureintro; exact fun _ _ => Or.inl trivial
  iexact H

set_option maxRecDepth 4000 in
theorem body_ok (c : Dev nD) : bodyPre m c ⊢ wpc c bodyF (fun _ => bodyPost m c) := by
  unfold bodyPre start
  iintro ⟨⟨⟨⟨%K, %KE, #HC⟩, Hs, Hc⟩, Hb⟩, Ho, ⟨%d0, H0⟩, ⟨%d1, H1⟩, ⟨%d2, H2⟩, ⟨%d3, H3⟩⟩
  ihave Ho := (owes_in m c) $$ Ho
  rw [before_0, before_1, before_2]
  ihave H0 := (stg_pt c cc0_stg0_0 (inP m c)) $$ H0
  ihave H1 := (stg_pt c cc0_stg1_0 (inR m c)) $$ H1
  ihave H2 := (stg_pt c cc0_stg2_0 (inG m c)) $$ H2
  ihave H3 := (stg_pt c cc0_stg3_0 ((dats m 0 c).before (3 : Fin 4) t₀ d3)) $$ H3
  iapply (body_run (m := m) (K := K) (KE := KE) c ((dats m 0 c).before (3 : Fin 4) t₀ d3) (fun _ => bodyPost m c)) $$ [Hs Hc Hb Ho H0 H1 H2 H3]
  · isplitr; · iexact HC
    isplitl [Hs]; · iexact Hs
    isplitl [Hc]; · iexact Hc
    isplitl [Hb]; · iexact Hb
    isplitl [Ho]; · iexact Ho
    unfold hP hR hG
    isplitl [H0]; · iexact H0
    isplitl [H1]; · iexact H1
    isplitl [H2] <;> iassumption
  iintro ⟨He, Hb, Ho, H0, H1, H2, H3⟩
  unfold bodyPost hP hR hG
  isplitl [He Hb]
  · isplitl [He] <;> iassumption
  isplitl [Ho]
  · iapply (owes_out m c)
    iexact Ho
  isplitl [H0]
  · iapply (pt_stg c cc0_stg0_0 (inP m c))
    iexact H0
  isplitl [H1]
  · iapply (pt_stg c cc0_stg1_0 (inR m c))
    iexact H1
  isplitl [H2]
  · iapply (pt_stg c cc0_stg2_0 (inG m c))
    iexact H2
  · iapply (pt_stg c cc0_stg3_0 (outAt m c))
    iexact H3

set_option maxRecDepth 20000 in
/-- The body's obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wpc c (cc0_body (F := F) (win0_0.stage 0) (hstage0_0 0) (win0_1.stage 0) (hstage0_1 0) (win0_2.stage 0) (hstage0_2 0) (win0_3.stage 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16) (fun _ => bodyPost m c)
  rw [body_eq]
  exact body_ok m c

end Cert.KernelIdeal.Ar
end
-- ==== Proof.Launch.lean ====
/- The launch: cells and rights are made, dealt to the devices, and every device runs. -/
module

public import proofs.«01_k».proof.Proof.Pipe
public import Idealize.ShloMosaic.Lib.Pipeline.CollectiveSegs

@[expose] public section

set_option synthInstance.maxSize 4096

noncomputable section

namespace Cert.KernelIdeal.Ar

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : Mem0 F) (ρ : Dev nD → PrngReg)

/-! ## Cells -/

/-- The completion semaphores. -/
abbrev osem (ak : Fin 8 × Fin 8) : SemLoc sig := .dma (dsem ak.1 ak.2)
theorem ownSemFacts : Pipeline.OwnSemFacts cfg0.spec osem := by decide

/-- The semaphore of a cell. -/
abbrev ksem (k : Key) : SemLoc sig := match k with
  | none => .reg barrier0
  | some ak => osem ak
theorem key_inj : ∀ ak ak' : Fin 8 × Fin 8, (dsem ak.1 ak.2).val = (dsem ak'.1 ak'.2).val → ak = ak' := fun ak ak' h => by
  have := congrArg keyOf h
  rwa [keyOf_dsem, keyOf_dsem] at this
theorem ksem_inj : Function.Injective (ksem : Key → SemLoc sig) := by
  intro k k' h
  match k, k', h with
  | none, none, _ => rfl
  | none, some _, h => cases h
  | some _, none, h => cases h
  | some ak, some ak', h => exact congrArg some (key_inj ak ak' (congrArg Fin.val (SemLoc.dma.inj h)))
theorem kcell_eq (c : Dev nD) (k : Key) : kcell (c, k) = ((c : Thread nD τ), ksem k) := by cases k <;> rfl
theorem kcell_inj : Function.Injective (kcell : Dev nD × Key → GSem nD τ sig) := by
  rintro ⟨c, k⟩ ⟨c', k'⟩ h
  rw [kcell_eq, kcell_eq] at h
  have h1 : c = c' := congrArg (fun g : GSem nD τ sig => g.1.1) h
  have h2 : k = k' := ksem_inj (congrArg Prod.snd h)
  rw [h1, h2]

/-- All cells of the protocol. -/
def cellsF : Finset (GSem nD τ sig) := Finset.univ.map ⟨kcell, kcell_inj⟩

/-- The rights of one device's own cells: six on its barrier, six passes, one on every completion cell. -/
abbrev TokIx := Fin 6 ⊕ Fin 6 ⊕ (Fin 8 × Fin 8)
abbrev tokOf (ci : Dev nD × TokIx) : GSem nD τ sig × ℕ × Fin 6 := match ci.2 with
  | .inl d => (bar ci.1, 0, d)
  | .inr (.inl d) => (esc ci.1, 0, d)
  | .inr (.inr ak) => (dcell ci.1 ak.1 ak.2, 0, 0)
theorem tokOf_inj : Function.Injective (tokOf : Dev nD × TokIx → GSem nD τ sig × ℕ × Fin 6) := by
  rintro ⟨c, i⟩ ⟨c', i'⟩ h
  have h1 : c = c' := by
    have h := congrArg (fun x : GSem nD τ sig × ℕ × Fin 6 => x.1.1.1) h
    rcases i with d | d | ak <;> rcases i' with d' | d' | ak' <;> exact h
  subst h1
  have hs := congrArg (fun x : GSem nD τ sig × ℕ × Fin 6 => x.1.2) h
  have hd := congrArg (fun x : GSem nD τ sig × ℕ × Fin 6 => x.2.2) h
  have hne (ak : Fin 8 × Fin 8) : (dsem ak.1 ak.2).val ≠ 0 := fun e => by have := dsem_ge ak.1 ak.2; omega
  rcases i with d | d | ak <;> rcases i' with d' | d' | ak'
  · exact congrArg (fun d => (c, Sum.inl d)) hd
  · cases hs
  · cases hs
  · cases hs
  · exact congrArg (fun d => (c, Sum.inr (Sum.inl d))) hd
  · exact absurd (congrArg Fin.val (SemLoc.dma.inj hs)).symm (hne ak')
  · cases hs
  · exact absurd (congrArg Fin.val (SemLoc.dma.inj hs)) (hne ak)
  · exact congrArg (fun ak => (c, Sum.inr (Sum.inr ak))) (key_inj ak ak' (congrArg Fin.val (SemLoc.dma.inj hs)))
def toksF : Finset (GSem nD τ sig × ℕ × Fin 6) := Finset.univ.map ⟨tokOf, tokOf_inj⟩

/-- The ghost state of the launch. -/
def u₀ : UU :=
  (initOf (Pipeline.cells cfgs cellOf_inj) (Pipeline.launchToks cfgs cellOf_inj), initOf cellsF toksF)

/-! ## Families over the cells of a device -/

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- A family over classes and chunks. -/
theorem bigSep_classes (Φ : Fin 8 × Fin 8 → sProp 𝕄) : bigSep Finset.univ Φ
    = iprop(ch all8 (fun k => Φ (0, k)) ∗ ch all8 (fun k => Φ (1, k)) ∗ ch all8 (fun k => Φ (2, k)) ∗ ch all8 (fun k => Φ (3, k))
      ∗ ch all8 (fun k => Φ (4, k)) ∗ ch all8 (fun k => Φ (5, k)) ∗ ch all8 (fun k => Φ (6, k)) ∗ ch all8 (fun k => Φ (7, k))) := by
  rw [bigSep_univ_prod, bigSep_fin8]
  simp only [ch_univ]
theorem univ_key : (Finset.univ : Finset Key) = insert none (Finset.univ.map Function.Embedding.some) := by
  ext k; cases k <;> simp
/-- A family over the cells of a device. -/
theorem bigSep_key (Φ : Key → sProp 𝕄) : bigSep Finset.univ Φ = iprop(Φ none ∗ bigSep Finset.univ (fun ak => Φ (some ak))) := by
  rw [univ_key, bigSep_insert (by simp), bigSep_map]
  rfl
theorem bigSep_sep2 {I : Type} (s : Finset I) (Φ Ψ : I → sProp 𝕄) : bigSep s (fun i => iprop(Φ i ∗ Ψ i)) = iprop(bigSep s Φ ∗ bigSep s Ψ) := bigSep_sep' s Φ Ψ

/-! ## Dealing -/

/-- The rights of device `c`'s own cells. -/
def toks (c : Dev nD) : sProp 𝕄 :=
  iprop(bigSep Finset.univ (fun d : Fin 6 => dutyTok ER (bar c) 0 d) ∗ bigSep Finset.univ (fun d : Fin 6 => dutyTok ER (esc c) 0 d)
    ∗ bigSep Finset.univ (fun ak : Fin 8 × Fin 8 => tk c ak.1 ak.2))
/-- Those that remain after the passes are stored. -/
def toks' (c : Dev nD) : sProp 𝕄 :=
  iprop(bigSep Finset.univ (fun d : Fin 6 => dutyTok ER (bar c) 0 d) ∗ (dutyTok ER (esc c) 0 4 ∗ dutyTok ER (esc c) 0 5)
    ∗ bigSep Finset.univ (fun ak : Fin 8 × Fin 8 => tk c ak.1 ak.2))
/-- The positions on device `c`'s cells. -/
def poss (c : Dev nD) : sProp 𝕄 := bigSep Finset.univ fun k : Key => atPos ER (kcell (c, k)) 0 ∅ 0

/-- What the launch gives device `c`. -/
def G (c : Dev nD) : sProp 𝕄 :=
  iprop(bigSep Finset.univ (fun k : Key => roundState ER (Rd m) (kcell (c, k)) 0) ∗ poss c
    ∗ bigSep Finset.univ (fun k : Key => reached ER (kcell (c, k)) 0) ∗ toks c)

theorem fund_all : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun k : Key => Φ (kcell (c, k)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    refine bigSep_congr fun c _ => ?_
    unfold toks
    rw [bigSep_univ_sum, bigSep_univ_sum]
    rfl
  iintro HX
  imod (Rounds.fund ER (Rd m) cellsF toksF) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss
  simp only [bigSep_sep2]
  isplitl [Hst]; · iexact Hst
  isplitl [Hat]; · iexact Hat
  isplitl [Hr]; · iexact Hr
  iexact Htok

theorem unscopedSems0_eq (c : Dev nD) : (unscopedSems0 c : sProp 𝕄) = semVal (bar c) 0 := by
  unfold unscopedSems0; rw [bigSep_eq_bigSepL_of_eq [SemLoc.reg barrier0] (by decide) (by decide)]; rfl
/-- The completion semaphores at zero. -/
abbrev own0 (c : Dev nD) : sProp 𝕄 := Pipeline.ownSems0 (Ix := Unit) (Name := ℕ) (U := UU) (Lvl := ℕ) (Val := Elt F) (τ := τ) osem c
theorem sems0_eq (c : Dev nD) : iprop(own0 c ∗ unscopedSems0 c) ⊢ (bigSep Finset.univ fun k : Key => semVal (kcell (c, k)) 0 : sProp 𝕄) := by
  rw [unscopedSems0_eq, bigSep_key]
  show iprop(own0 c ∗ semVal (bar c) 0) ⊢ iprop(semVal (bar c) 0 ∗ own0 c)
  iintro ⟨H1, H2⟩
  isplitl [H2] <;> iassumption

/-- The cells of device `c` and its store are opened for all. -/
theorem core_alloc (c : Dev nD) :
    iprop(own0 c ∗ unscopedSems0 c ∗ G m c)
      ⊢ |={Set.univ}=> iprop((bigSep Finset.univ fun k => iprop(∃ κ : ℕ, cellInv ER (Rd m) κ (kcell (c, k)))) ∗ (∃ κ : ℕ, inv κ (escrow c))
          ∗ poss c ∗ bigSep Finset.univ (fun k : Key => reached ER (kcell (c, k)) 0) ∗ toks' c) := by
  unfold G toks toks'
  rw [bigSep_fin6 (fun d => dutyTok ER (esc c) 0 d)]
  iintro ⟨Hos, Hus, Hst, Hat, Hr, Hb, ⟨E0, E1, E2, E3, E4, E5⟩, Hd⟩
  ihave Hv := (sems0_eq (F := F) c) $$ [Hos Hus]
  · isplitl [Hos] <;> iassumption
  imod (show iprop((bigSep Finset.univ fun k : Key => semVal (kcell (c, k)) 0) ∗ bigSep Finset.univ fun k : Key => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imod (show escrow (F := F) c ⊢ (|={Set.univ}=> iprop(∃ κ : ℕ, inv κ (escrow c)) : sProp 𝕄) from inv_alloc) $$ [E0 E1 E2 E3] with Hesc
  · unfold escrow
    ileft
    isplitl [E0]; · iexact E0
    isplitl [E1]; · iexact E1
    isplitl [E2] <;> iassumption
  imodintro
  isplitl [Hinv]; · iexact Hinv
  isplitl [Hesc]; · iexact Hesc
  isplitl [Hat]; · iexact Hat
  isplitl [Hr]; · iexact Hr
  isplitl [Hb]; · iexact Hb
  isplitl [E4 E5]
  · isplitl [E4] <;> iassumption
  iexact Hd

/-- The rights device `c` uses. -/
def payToks (c : Dev nD) : sProp 𝕄 :=
  iprop(sigToks c ∗ (ch all8 (fun k => tk c 0 k) ∗ ch all8 (fun k => tk (xn c) 1 k) ∗ ch all8 (fun k => tk c 2 k) ∗ ch all8 (fun k => tk (yn c) 3 k)
      ∗ ch all8 (fun k => tk c 4 k) ∗ ch all8 (fun k => tk (zn c) 5 k) ∗ ch all8 (fun k => tk c 6 k)
      ∗ ch lo4 (fun k => tk (yn c) 7 k) ∗ ch hi4 (fun k => tk (zn c) 7 k)))

/-- The three exchanges of devices. -/
def eqX : Dev nD ≃ Dev nD := ⟨xn, xn, xn_xn, xn_xn⟩
def eqY : Dev nD ≃ Dev nD := ⟨yn, yn, yn_yn, yn_yn⟩
def eqZ : Dev nD ≃ Dev nD := ⟨zn, zn, zn_zn, zn_zn⟩
theorem dealX (Φ : Dev nD → sProp 𝕄) : bigSep Finset.univ Φ ⊢ bigSep Finset.univ fun c => Φ (xn c) := Entails.of_eq (bigSep_univ_equiv eqX Φ)
theorem dealY (Φ : Dev nD → sProp 𝕄) : bigSep Finset.univ Φ ⊢ bigSep Finset.univ fun c => Φ (yn c) := Entails.of_eq (bigSep_univ_equiv eqY Φ)
theorem dealZ (Φ : Dev nD → sProp 𝕄) : bigSep Finset.univ Φ ⊢ bigSep Finset.univ fun c => Φ (zn c) := Entails.of_eq (bigSep_univ_equiv eqZ Φ)

/-- Every right goes to the device that uses it. -/
theorem toks_around : (bigSep Finset.univ fun c : Dev nD => (toks' c : sProp 𝕄)) ⊢ bigSep Finset.univ fun c : Dev nD => payToks c := by
  unfold toks' payToks sigToks
  simp only [bigSep_fin6, bigSep_classes, ch_halves (fun k => tk (F := F) _ 7 k), bigSep_sep2]
  iintro ⟨⟨B0, B1, B2, B3, B4, B5⟩, ⟨E4, E5⟩, D0, D1, D2, D3, D4, D5, D6, D7l, D7h⟩
  isplitl [B0 B1 B2 B3 B4 B5 E4 E5]
  · isplitl [B0 B1 B2 B3]
    · isplitl [B0]; · iapply (dealX fun c => dutyTok ER (bar c) 0 0); iexact B0
      isplitl [B1]; · iapply (dealX fun c => dutyTok ER (bar c) 0 1); iexact B1
      isplitl [B2]; · iapply (dealX fun c => dutyTok ER (bar c) 0 2); iexact B2
      iapply (dealX fun c => dutyTok ER (bar c) 0 3); iexact B3
    isplitl [B4]; · iapply (dealY fun c => dutyTok ER (bar c) 0 4); iexact B4
    isplitl [B5]; · iapply (dealZ fun c => dutyTok ER (bar c) 0 5); iexact B5
    isplitl [E4]; · iapply (dealX fun c => dutyTok ER (esc c) 0 4); iexact E4
    iexact E5
  isplitl [D0]; · iexact D0
  isplitl [D1]; · iapply (dealX fun c => ch all8 fun k => tk c 1 k); iexact D1
  isplitl [D2]; · iexact D2
  isplitl [D3]; · iapply (dealY fun c => ch all8 fun k => tk c 3 k); iexact D3
  isplitl [D4]; · iexact D4
  isplitl [D5]; · iapply (dealZ fun c => ch all8 fun k => tk c 5 k); iexact D5
  isplitl [D6]; · iexact D6
  isplitl [D7l]; · iapply (dealY fun c => ch lo4 fun k => tk c 7 k); iexact D7l
  iapply (dealZ fun c => ch hi4 fun k => tk c 7 k); iexact D7h

/-- The shared knowledge without the levels. -/
def Ctx0 (K : Dev nD × Key → ℕ) (KE : Dev nD → ℕ) : sProp 𝕄 :=
  iprop(bigSep Finset.univ (fun ck : Dev nD × Key => iprop(cellInv ER (Rd m) (K ck) (kcell ck) ∗ reached ER (kcell ck) 0))
    ∗ bigSep Finset.univ (fun c : Dev nD => inv (KE c) (escrow c)))
instance Ctx0_persistent (K : Dev nD × Key → ℕ) (KE : Dev nD → ℕ) : BI.Persistent (Ctx0 m K KE) := by unfold Ctx0; infer_instance

/-- What device `c` has before the launch credit. -/
def G' (c : Dev nD) : sProp 𝕄 := iprop((∃ K KE, Ctx0 m K KE) ∗ startC c)

theorem start_deal (c : Dev nD) : iprop(poss c ∗ payToks c) ⊢ startC (F := F) c := by
  unfold poss payToks startC
  rw [bigSep_key, bigSep_classes]
  iintro ⟨⟨Ab, A⟩, Sg, T⟩
  isplitl [Sg]; · iexact Sg
  isplitl [Ab]; · iexact Ab
  isplitl [A]; · iexact A
  iexact T

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k)))) ∗ (∃ κ : ℕ, inv κ (escrow c))
          ∗ poss c ∗ bigSep Finset.univ (fun k : Key => reached ER (kcell (c, k)) 0) ∗ toks' c) : sProp 𝕄)
      ⊢ bigSep Finset.univ (G' m) := by
  simp only [bigSep_sep2]
  rw [← bigSep_univ_prod (fun ck : Dev nD × Key => iprop(∃ κ : ℕ, cellInv ER (Rd m) κ (kcell ck))),
    ← bigSep_univ_prod (fun ck : Dev nD × Key => (reached ER (kcell ck) 0 : sProp 𝕄))]
  iintro ⟨HI, HE, Hat, #HR, Htok⟩
  ihave HK := (BI.bigSep_exists_pi Finset.univ (fun (ck : Dev nD × Key) (κ : ℕ) => (cellInv ER (Rd m) κ (kcell ck) : sProp 𝕄))) $$ HI
  icases HK with ⟨%K, #HI⟩
  ihave HKE := (BI.bigSep_exists_pi Finset.univ (fun (c : Dev nD) (κ : ℕ) => (inv κ (escrow c) : sProp 𝕄))) $$ HE
  icases HKE with ⟨%KE, #HE⟩
  ihave Htk := (toks_around (F := F)) $$ Htok
  iapply (with_persistent (R := Ctx0 m K KE) (Φ := fun c => iprop(poss c ∗ payToks c)) (Ψ := G' m) fun c _ => by
    unfold G'
    show iprop(Ctx0 m K KE ∗ (poss c ∗ payToks c)) ⊢ _
    iintro ⟨#HC, H⟩
    isplitr
    · iexists K; iexists KE; iexact HC
    iapply (start_deal c)
    iexact H)
  rw [bigSep_sep2]
  isplitr
  · unfold Ctx0
    rw [bigSep_sep2]
    isplitl
    · isplitl; · iexact HI
      iexact HR
    iexact HE
  isplitl [Hat]; · iexact Hat
  iexact Htk

/-- All devices at once. -/
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

/-- What device `c` owes at the start. -/
abbrev O₀ (c : Dev nD) : CellTallies nD τ sig Unit := tally (pmts c)

/-- The total a list pays to a cell. -/
def paid (l : List Pmt) (g : GSem nD τ sig) : ℕ := (l.map fun p => if g = p.1 then p.2 else 0).sum
theorem tally_apply (l : List Pmt) (g : GSem nD τ sig) : tally l g () = paid l g := by
  induction l with
  | nil => rfl
  | cons p ps ih =>
    unfold tally
    rw [Pi.add_apply, Finsupp.add_apply, tallyAt_apply, ih, Nat.add_comm]
    unfold paid
    rw [List.map_cons, List.sum_cons]
    simp only [and_true]

theorem paid_bar : ∀ c : Dev nD, (∑ d : Dev nD, paid (pmts d) (bar c)) = 6 := by decide +kernel
theorem paid_dcell : ∀ (c : Dev nD) (a k : Fin 8), a.val % 2 = 1 → (∑ d : Dev nD, paid (pmts d) (dcell c a k)) = N := by decide +kernel

theorem launch_at (g : GSem nD τ sig) (n : ℕ) (h : (∑ d : Dev nD, paid (pmts d) g) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => tally_apply (pmts d) g]
  exact h

theorem creds (c : Dev nD) : (Pipeline.launchCred O₀ c : sProp 𝕄) ⊢ credC c := by
  unfold Pipeline.launchCred
  have hsub : bigSep Finset.univ (fun sm : SemLoc sig => (cred (tallyOn ((c : Thread nD τ), sm) (launchCredit (Pipeline.owing O₀) 0 ((c : Thread nD τ), sm))) : sProp 𝕄))
      ⊢ bigSep Finset.univ (fun k : Key => (cred (tallyOn (kcell (c, k)) (launchCredit (Pipeline.owing O₀) 0 (kcell (c, k)))) : sProp 𝕄)) := by
    refine (bigSep_subset (Finset.subset_univ (Finset.univ.map ⟨ksem, ksem_inj⟩))).trans ?_
    rw [bigSep_map]
    exact Entails.of_eq (bigSep_congr fun k _ => by rw [kcell_eq]; rfl)
  have hcr (a : Fin 8) (ha : a.val % 2 = 1) :
      ch all8 (fun k => (cred (tallyOn (dcell c a k) (launchCredit (Pipeline.owing O₀) 0 (dcell c a k))) : sProp 𝕄)) ⊢ crs c a :=
    ch_mono all8 _ _ fun k _ => Entails.of_eq (by rw [launch_at _ N (paid_dcell c a k ha)])
  refine hsub.trans ?_
  unfold credC
  rw [bigSep_key, bigSep_classes]
  show iprop(cred (tallyOn (bar c) (launchCredit (Pipeline.owing O₀) 0 (bar c))) ∗ _) ⊢ _
  rw [launch_at (bar c) 6 (paid_bar c)]
  iintro ⟨Hb, -, C1, -, C3, -, C5, -, C7⟩
  isplitl [Hb]; · iexact Hb
  isplitl [C1]; · iapply (hcr 1 rfl); iexact C1
  isplitl [C3]; · iapply (hcr 3 rfl); iexact C3
  isplitl [C5]; · iapply (hcr 5 rfl); iexact C5
  iapply (hcr 7 rfl); iexact C7

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, #Hlev, Hcr, -, ⟨%K, %KE, HC⟩, Hs⟩
  ihave Hc := (creds (F := F) c) $$ Hcr
  imodintro
  isplitl
  · isplitl [HC]
    · iexists K; iexists KE
      unfold Ctx Ctx0
      icases HC with ⟨H1, H2⟩
      isplitl [H1]; · iexact H1
      isplitl [H2]; · iexact H2
      iexact Hlev
    isplitl [Hs] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scrs c) from rfl, scopedRest0_eq]
  unfold scrs
  iintro ⟨Hs, -, Hr⟩
  isplitl [Hs]; · iexact Hs
  iexact Hr

theorem phi1_exit (c : Dev nD) :
    (dats m 0 c).Φ (Fin.last cfg0.N) ⊢ iprop(unscopedSems0 c ∗ own0 c ∗ Pipeline.scopedRest cfg0.spec c) := by
  rw [show (dats m 0 c).Φ (Fin.last cfg0.N) = iprop(endC c ∗ scrs c) from rfl, scopedRest0_eq, unscopedSems0_eq]
  unfold endC scrs own0 Pipeline.ownSems0
  rw [bigSep_classes]
  iintro ⟨⟨Hb, Hs⟩, Hr⟩
  isplitl [Hb]; · iexact Hb
  isplitl [Hs]; · iexact Hs
  iexact Hr

theorem above_pmts (c : Dev nD) : Above 0 (pmts c) := fun p hp => by
  rcases List.mem_cons.mp hp with rfl | hp
  · exact ⟨rfl, by show 0 < 1; decide⟩
  rcases List.mem_cons.mp hp with rfl | hp
  · exact ⟨rfl, by show 0 < 1; decide⟩
  rcases List.mem_cons.mp hp with rfl | hp
  · exact ⟨rfl, by show 0 < 1; decide⟩
  · exact ((above_pX 0 (by decide) c all8).append (above_after 0 (by decide) c)) p hp

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (by fin_cases w <;> fin_cases s <;> exact Nat.le_refl 0) (pmts c) (above_pmts c)
    · exact mayWait c _ 0 (by fin_cases w <;> fin_cases s <;> exact Nat.le_refl 0) [] (Above.nil 0)

theorem share_eq (c : Dev nD) (w : Fin cfg0.W) : (dats m 0 c).share w = fullShare := by unfold Dat.share; split <;> rfl

/-- An argument or the result after the run. -/
def finalA (c : Dev nD) (w : Fin cfg0.W) : Buf (Elt F) ((cfg0.win w).arr.view.loc (c : Thread nD τ)) := (dats m 0 c).arrAt w cfg0.N
/-- Every argument and result after the run. -/
def QC : PUnit × MemSt nD τ sig (Elt F) → Prop := fun r =>
  ∀ c : Dev nD, ∀ w : Fin cfg0.W, r.2.mem ((cfg0.win w).arr.view.loc (c : Thread nD τ)) = finalA m c w

set_option maxRecDepth 20000 in
/-- The whole run: all eight devices end, the arrays are as computed, all semaphores are at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ar
end
-- ==== Proof.Value.lean ====
/- What the result holds, at the extended reals: the reference's row normalisation of the summed partial sums. -/
module

public import proofs.«01_k».proof.Proof.Launch
public import proofs.«01_k».proof.Proof.Gen.ReferenceIdeal.Run
public import Idealize.ShloMosaic.Lib.Pointwise
public import Idealize.ShloMosaic.Lib.Layout

@[expose] public section

noncomputable section

namespace Cert.ReferenceIdeal
open Cert.ReferenceIdeal Cert.ReferenceIdeal.Gen Idealize.ShloMosaic

/-- The reference's result, of its three arguments. -/
def refOut (P : FVec Ideal S2x1024x1024 .f32) (R : FVec Ideal S1024x1024 .f32)
    (G : FVec Ideal S1024 .f32) : FVec Ideal S1024x1024 .f32 :=
  let Y := addf (Host.reduceAdd P (constant S_ .f32 0x00000000#32) reducesTo_S2x1024x1024_S1024x1024_d0 h_S_) R
  mulf (Host.divf Y (broadcastInDim S1024x1024 ![0, 1] bcast_S1024x1_S1024x1024_0_1 (Host.sqrt (addf (Host.divf (broadcastInDim S1024x1 ![0] bcast_S1024_S1024x1_0 (Host.reduceAdd (mulf Y Y) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 G))

end Cert.ReferenceIdeal

namespace Cert.KernelIdeal.Ar

open Idealize.ShloMosaic Idealize.ShloMosaic.TcCoe
open Cert.KernelIdeal.Gen
open Cert.ReferenceIdeal (refOut)

section Arrays
variable {F : FTy → Type} [FloatOps F] (m : Mem0 F)

/-- The first argument ends as it began. -/
theorem final_P (c : Dev nD) : finalA m c (0 : Fin 4) = m ((c.tc : Thread nD τ).loc main_arg0) :=
  (dats (F := F) m 0 c).arrAt_in (0 : Fin 4) rfl _
/-- The second argument ends as it began. -/
theorem final_R (c : Dev nD) : finalA m c (1 : Fin 4) = m ((c.tc : Thread nD τ).loc main_arg1) :=
  (dats (F := F) m 0 c).arrAt_in (1 : Fin 4) rfl _
/-- The third argument ends as it began. -/
theorem final_G (c : Dev nD) : finalA m c (2 : Fin 4) = m ((c.tc : Thread nD τ).loc main_arg2) :=
  (dats (F := F) m 0 c).arrAt_in (2 : Fin 4) rfl _

/-- The result ends as the one step leaves it. -/
theorem final_O (c : Dev nD) : finalA m c (3 : Fin 4) = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 :=
    funext fun a => by fin_cases a <;> decide
  rw [← h]
  exact (Memref.read_access_unit_zero (Elt F) main_v1 hz (fun a => by fin_cases a <;> decide) _).symm

/-- The partial sums a device holds are its argument. -/
theorem inP_eq (c : Dev nD) : inP m c = m ((c.tc : Thread nD τ).loc main_arg0) :=
  Memref.read_access_unit_zero (Elt F) main_arg0 (funext fun a => by fin_cases a <;> decide) (fun a => by fin_cases a <;> decide) _
/-- The residual a device holds is its argument. -/
theorem inR_eq (c : Dev nD) : inR m c = m ((c.tc : Thread nD τ).loc main_arg1) :=
  Memref.read_access_unit_zero (Elt F) main_arg1 (funext fun a => by fin_cases a <;> decide) (fun a => by fin_cases a <;> decide) _
/-- The weights a device holds are its argument. -/
theorem inG_eq (c : Dev nD) : inG m c = m ((c.tc : Thread nD τ).loc main_arg2) :=
  Memref.read_access_unit_zero (Elt F) main_arg2 (funext fun a => by fin_cases a <;> decide) (fun a => by fin_cases a <;> decide) _

end Arrays

/-- A row over its root mean square, times a weight. -/
def nrm (y : Fin 1024 → EReal) (g : EReal) (j : Fin 1024) : EReal :=
  Ideal.div (y j) (Ideal.sqrt (Ideal.div (∑ k, y k * y k) (Ideal.ofBits .f32 0x44800000#32) + Ideal.ofBits .f32 0x358637BD#32)) * g

/-- The body's payload normalises each row of the sum of its two operands. -/
theorem pay_at (A : Vec Ideal S32x1024 .f32) (B : Vec Ideal S1x32x1024 .bf16) (G : Vec Ideal S1024 .f32) (r : Fin 32) (j : Fin 1024) :
    k0_pay14 (F := Ideal) (k0_pay12 A B) (k0_pay13 A B) G (ix2 r j)
      = nrm (fun k => A (ix2 r k) + B (ix3 0 r k)) (G (ix1 j)) j := by
  unfold nrm
  unfold_payloads
  pointwise

/-- The rows a device sends along the first axis are those of its quarter. -/
theorem off1_rows (c : Dev nD) (k : Fin 8) : k0_off1 c (offw k) = ![0, 256 * (qr c).val + 32 * k.val, 0] := by
  revert c k; decide +kernel
/-- The rows of partial sums a device keeps are those of its quarter. -/
theorem off2_rows (c : Dev nD) : k0_off2 c = ![0, 256 * (qr c).val, 0] := by revert c; decide +kernel
/-- The rows of the residual a device adds are those of its quarter. -/
theorem off3_rows (c : Dev nD) : k0_off3 c = ![256 * (qr c).val, 0] := by revert c; decide +kernel

/-- Row `r` of chunk `k` of quarter `s`. -/
def row (s : Fin 4) (k : Fin 8) (r : Fin 32) : Fin 1024 :=
  ⟨256 * s.val + 32 * k.val + r.val, by have := s.isLt; have := k.isLt; have := r.isLt; omega⟩

section Ideals
variable (m : Mem0 Ideal)

/-- A chunk that travels along the first axis holds the sender's partial sums. -/
theorem stV_at (c : Dev nD) (k : Fin 8) (r : Fin 32) (j : Fin 1024) :
    up (stV m c k) (ix3 0 r j) = inP m c (ix3 0 (row (qr c) k r) j) := by
  unfold up stV
  unfold_payloads
  pointwise
  refine congrArg (inP m c) (funext fun a => Fin.ext ?_)
  show k0_off1 c (offw k) a + 1 * _ = _
  rw [off1_rows c k]
  fin_cases a <;> simp [ix3, row] <;> omega

/-- A chunk of the local sum holds the partial sums and the residual of its rows. -/
theorem locC_at (c : Dev nD) (k : Fin 8) (r : Fin 32) (j : Fin 1024) :
    locC m c k (ix2 r j) = inP m c (ix3 0 (row (qr c) k r) j) + inR m c (ix2 (row (qr c) k r) j) := by
  have h : locC m c k (ix2 r j) = locV m c (ix2 ⟨32 * k.val + r.val, by have := k.isLt; have := r.isLt; omega⟩ j) :=
    congrArg (locV m c) (funext fun a => Fin.ext (by
      show (![32 * k.val, 0] : Fin 2 → ℕ) a + 1 * _ = _
      fin_cases a <;> simp [ix2]))
  rw [h]
  unfold locV
  unfold_payloads
  pointwise
  refine congrArg₂ (· + ·) (congrArg (inP m c) (funext fun a => Fin.ext ?_)) (congrArg (inR m c) (funext fun a => Fin.ext ?_))
  · show k0_off2 c a + 1 * _ = _
    rw [off2_rows c]
    fin_cases a <;> simp [ix3, row] <;> omega
  · show k0_off3 c a + 1 * _ = _
    rw [off3_rows c]
    fin_cases a <;> simp [ix2, row] <;> omega

/-- A normalised chunk: the sum of both devices' partial sums and the residual, normalised row by row. -/
theorem outV_at (c : Dev nD) (k : Fin 8) (r : Fin 32) (j : Fin 1024) :
    outV m c k (ix2 r j)
      = nrm (fun l => (inP m c (ix3 0 (row (qr c) k r) l) + inR m c (ix2 (row (qr c) k r) l)) + inP m (xn c) (ix3 0 (row (qr c) k r) l))
          (inG m c (ix1 j)) j := by
  unfold outV
  rw [pay_at]
  refine congrArg (fun y => nrm y _ j) (funext fun l => ?_)
  rw [stV_at, locC_at, show qr (xn c) = qr c by revert c; decide]

/-- The reference's result at an index: the row of the summed partial sums and the residual, normalised. -/
theorem refOut_at (P : FVec Ideal Cert.ReferenceIdeal.S2x1024x1024 .f32) (R : FVec Ideal Cert.ReferenceIdeal.S1024x1024 .f32)
    (G : FVec Ideal Cert.ReferenceIdeal.S1024 .f32) (i j : Fin 1024) :
    refOut P R G (ix2 i j) = nrm (fun l => (P (ix3 0 i l) + P (ix3 1 i l)) + R (ix2 i l)) (G (ix1 j)) j := by
  unfold refOut nrm
  dsimp only
  pointwise [Fin.sum_univ_two]

/-- The block of the partial sums on a device is the whole array's at its first mesh coordinate. -/
theorem block_at (c : Dev nD) (P : FVec Ideal Cert.ReferenceIdeal.S2x1024x1024 .f32) (i j : Fin 1024) :
    (Layout.blockN ⟨3, ![1, 1024, 1024]⟩ ⟨3, ![2, 1024, 1024]⟩ (Layout.meshBlock [2, 2, 2] ![[0], [], []] c) P :
        S1x1024x1024.Idx → EReal) (ix3 0 i j)
      = P (ix3 ⟨c.val / 4, Nat.div_lt_of_lt_mul c.isLt⟩ i j) := by
  have h0 : ((Layout.meshBlock [2, 2, 2] ![[0], [], []] c) (0 : Fin 3)).val = c.val / 4 := by revert c; decide
  have h1 : ((Layout.meshBlock [2, 2, 2] ![[0], [], []] c) (1 : Fin 3)).val = 0 := by revert c; decide
  have h2 : ((Layout.meshBlock [2, 2, 2] ![[0], [], []] c) (2 : Fin 3)).val = 0 := by revert c; decide
  rw [Layout.blockN_apply]
  refine congrArg P (funext fun a => Fin.ext ?_)
  rw [Layout.TilesN.idx_val]
  fin_cases a
  · show ((Layout.meshBlock [2, 2, 2] ![[0], [], []] c) (0 : Fin 3)).val * 1 + 0 = c.val / 4
    omega
  · show ((Layout.meshBlock [2, 2, 2] ![[0], [], []] c) (1 : Fin 3)).val * 1024 + i.val = i.val
    omega
  · show ((Layout.meshBlock [2, 2, 2] ![[0], [], []] c) (2 : Fin 3)).val * 1024 + j.val = j.val
    omega

/-- The three terms of a sum in the order either device of a pair adds them. -/
theorem pair_sum (x : Fin 2 → EReal) (y : EReal) (c : Dev nD) :
    (x ⟨c.val / 4, Nat.div_lt_of_lt_mul c.isLt⟩ + y) + x ⟨(xn c).val / 4, Nat.div_lt_of_lt_mul (xn c).isLt⟩ = (x 0 + x 1) + y := by
  have h : ((⟨c.val / 4, Nat.div_lt_of_lt_mul c.isLt⟩ : Fin 2) = 0 ∧ (⟨(xn c).val / 4, Nat.div_lt_of_lt_mul (xn c).isLt⟩ : Fin 2) = 1)
      ∨ ((⟨c.val / 4, Nat.div_lt_of_lt_mul c.isLt⟩ : Fin 2) = 1 ∧ (⟨(xn c).val / 4, Nat.div_lt_of_lt_mul (xn c).isLt⟩ : Fin 2) = 0) := by
    revert c; decide
  obtain ⟨h, h'⟩ | ⟨h, h'⟩ := h <;> rw [h, h']
  · exact add_right_comm _ _ _
  · rw [add_right_comm, add_comm (x 1)]

/-- Every device's result is the reference's, when the devices hold the reference's arguments. -/
theorem out_eq (P : FVec Ideal Cert.ReferenceIdeal.S2x1024x1024 .f32) (R : FVec Ideal Cert.ReferenceIdeal.S1024x1024 .f32)
    (G : FVec Ideal Cert.ReferenceIdeal.S1024 .f32)
    (hP : ∀ c : Dev nD, m ((c.tc : Thread nD τ).loc main_arg0)
      = Layout.blockN ⟨3, ![1, 1024, 1024]⟩ ⟨3, ![2, 1024, 1024]⟩ (Layout.meshBlock [2, 2, 2] ![[0], [], []] c) P)
    (hR : ∀ c : Dev nD, m ((c.tc : Thread nD τ).loc main_arg1) = R)
    (hG : ∀ c : Dev nD, m ((c.tc : Thread nD τ).loc main_arg2) = G) (c : Dev nD) : outAt m c = refOut P R G := by
  have hP' : ∀ (d : Dev nD) (i j : Fin 1024), inP m d (ix3 0 i j) = P (ix3 ⟨d.val / 4, Nat.div_lt_of_lt_mul d.isLt⟩ i j) :=
    fun d i j => by rw [inP_eq, hP d]; exact block_at d P i j
  funext x
  obtain ⟨i, j, rfl⟩ : ∃ i j : Fin 1024, x = ix2 i j := ⟨x 0, x 1, eq_ix2 x⟩
  have hs : i.val / 256 < 4 := Nat.div_lt_of_lt_mul i.isLt
  have hk : i.val % 256 / 32 < 8 := Nat.div_lt_of_lt_mul (Nat.mod_lt _ (by decide))
  have hr : i.val % 32 < 32 := Nat.mod_lt _ (by decide)
  have hq : qr (qdev c ⟨i.val / 256, hs⟩) = ⟨i.val / 256, hs⟩ := Fin.ext (by
    show (4 * (c.val / 4) + i.val / 256) % 4 = i.val / 256
    omega)
  have hi : row ⟨i.val / 256, hs⟩ ⟨i.val % 256 / 32, hk⟩ ⟨i.val % 32, hr⟩ = i := Fin.ext (by
    show 256 * (i.val / 256) + 32 * (i.val % 256 / 32) + i.val % 32 = i.val
    omega)
  have hx : chunkIx (i.val % 32) j.val hr j.isLt = ix2 (⟨i.val % 32, hr⟩ : Fin 32) j :=
    funext fun a => Fin.ext (by fin_cases a <;> rfl)
  refine Eq.trans (b := outV m (qdev c ⟨i.val / 256, hs⟩) ⟨i.val % 256 / 32, hk⟩ (ix2 (⟨i.val % 32, hr⟩ : Fin 32) j)) ?_ ?_
  · exact congrArg (outV m (qdev c ⟨i.val / 256, hs⟩) ⟨i.val % 256 / 32, hk⟩) hx
  · rw [outV_at, refOut_at, hq, hi, inG_eq, hG]
    refine congrArg (fun y => nrm y _ j) (funext fun l => ?_)
    rw [hP', hP', inR_eq, hR]
    exact pair_sum (fun b => P (ix3 b i l)) _ _

end Ideals

end Cert.KernelIdeal.Ar
end
-- ==== Proof.lean ====
/- The proof of the claims: the run of the kernel on its eight devices, the run of the reference, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Ar (run_main final_P final_R final_G final_O out_eq)

set_option maxRecDepth 100000 in
/-- The two printings of the kernel have the same table of bodies. -/
theorem bodies_eq : Cert.Kernel.defs₀ (F := Bits) = Cert.KernelIdeal.defs₀ (F := Bits) :=
  congrArg Defs.onTc (funext fun l => match l with
    | ⟨0, _⟩ => funext fun ⟨t, s⟩ => rfl
    | ⟨n + 1, h⟩ => absurd h (by simp))
/-- So they have the same definitions. -/
theorem defs_eq : Cert.Kernel.defs (F := Bits) = Cert.KernelIdeal.defs (F := Bits) :=
  congrArg (Pipeline.defs (Cert.Kernel.pcfgs (F := Bits))) bodies_eq

/-- The kernel as printed: its run ends with the arguments unchanged and every semaphore at zero. -/
theorem frame_kernel : Cert.quiescent_Kernel := fun m ρ _ =>
  (congrArg (fun D => θ_run D (onTc (τ := Cert.Kernel.τ) (Cert.Kernel.main (F := Bits))) ⟨m, fun _ => 0, ρ⟩ _) defs_eq).mpr
  ((θ_run Cert.KernelIdeal.defs _ _).mono
    (fun _ h => ⟨fun c => ⟨(h.1 c (0 : Fin 4)).trans (final_P (F := Bits) m c), (h.1 c (1 : Fin 4)).trans (final_R (F := Bits) m c),
      (h.1 c (2 : Fin 4)).trans (final_G (F := Bits) m c)⟩, h.2⟩)
    (run_main (F := Bits) m ρ))

/-- The kernel over the extended reals: its run ends with the arguments unchanged and every semaphore at zero. -/
theorem frame_kernelIdeal : Cert.quiescent_KernelIdeal := fun m ρ _ =>
  (θ_run Cert.KernelIdeal.defs _ _).mono
    (fun _ h => ⟨fun c => ⟨(h.1 c (0 : Fin 4)).trans (final_P (F := Ideal) m c), (h.1 c (1 : Fin 4)).trans (final_R (F := Ideal) m c),
      (h.1 c (2 : Fin 4)).trans (final_G (F := Ideal) m c)⟩, h.2⟩)
    (run_main (F := Ideal) m ρ)

/-- The reference's run ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device of the kernel ends with the reference's result. -/
theorem algebraic : Cert.algebraic_KernelIdeal_ReferenceIdeal := by
  intro m ρ m' ρ' _ hag
  refine ⟨Cert.ReferenceIdeal.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run Cert.KernelIdeal.defs _ _).mono (fun _ h c => ⟨?_, ?_, ?_, ?_⟩) (run_main (F := Ideal) m ρ)
    · exact (h.1 c (3 : Fin 4)).trans ((final_O (F := Ideal) m c).trans
        (out_eq m _ _ _ (fun c => (hag c).1) (fun c => (hag c).2.1) (fun c => (hag c).2.2) c))
    · exact (h.1 c (0 : Fin 4)).trans (final_P (F := Ideal) m c)
    · exact (h.1 c (1 : Fin 4)).trans (final_R (F := Ideal) m c)
    · exact (h.1 c (2 : Fin 4)).trans (final_G (F := Ideal) m c)
  · exact (θ_run Cert.ReferenceIdeal.defs _ _).mono (fun _ h => h 0) (Cert.ReferenceIdeal.Value.run (F := Ideal) m' ρ')

/-- All the claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
